-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edge_weights_finite [hPre_edge_weights_finite : Cert.Pre_edge_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_edge_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edge_weights_finite [hPre_edge_weights_finite : Cert.Pre_edge_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edge_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_edge_weights_finite [hKernelIdeal : Cert.KernelIdeal.Facts] [hPre_edge_weights_finite : Cert.Pre_edge_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edge_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_edge_weights_finite [hReferenceIdeal : Cert.ReferenceIdeal.Facts] [hPre_edge_weights_finite : Cert.Pre_edge_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edge_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_edge_weights_finite [hKernelIdeal : Cert.KernelIdeal.Facts] [hReferenceIdeal : Cert.ReferenceIdeal.Facts] [hPre_edge_weights_finite : Cert.Pre_edge_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edge_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_edge_weights_finite : Cert.Pre_edge_weights_finite.Facts),
    quiescent_Kernel (hKernel := hKernel)
    ∧ quiescent_KernelIdeal (hKernelIdeal := hKernelIdeal)
    ∧ quiescent_KernelIdeal_pre_edge_weights_finite (hKernelIdeal := hKernelIdeal) (hPre_edge_weights_finite := hPre_edge_weights_finite)
    ∧ quiescent_ReferenceIdeal (hReferenceIdeal := hReferenceIdeal)
    ∧ quiescent_ReferenceIdeal_pre_edge_weights_finite (hReferenceIdeal := hReferenceIdeal) (hPre_edge_weights_finite := hPre_edge_weights_finite)
    ∧ preserves_Kernel_KernelIdeal
    ∧ algebraic_KernelIdeal_ReferenceIdeal_pre_edge_weights_finite (hKernelIdeal := hKernelIdeal) (hReferenceIdeal := hReferenceIdeal) (hPre_edge_weights_finite := hPre_edge_weights_finite)
-- ==== Pre_edge_weights_finite.lean ====
abbrev S1024x64x16 : Shape := ⟨3, ![1024, 64, 16]⟩
abbrev S1024x4x64x64 : Shape := ⟨4, ![1024, 4, 64, 64]⟩
abbrev S4x16x128 : Shape := ⟨3, ![4, 16, 128]⟩
abbrev S4x128x128 : Shape := ⟨3, ![4, 128, 128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S_ : Shape := ⟨0, ![]⟩

class Facts : Prop where
  bcast_S_S128x8 : S_.BroadcastsInDim S128x8 (![] : Fin 0 → Fin S128x8.rank)
  reducesTo_S128x8_S_d0_1 : S128x8.ReducesTo [0, 1] S_
  h_S_ : 0 < S_.numel

variable [Facts]

def fn {F : FTy → Type} [FloatOps F] (main_arg0 : FVec F S1024x64x16 .f32) (main_arg1 : FVec F S1024x4x64x64 .f32) (main_arg2 : FVec F S4x16x128 .f32) (main_arg3 : FVec F S4x128x128 .f32) (main_arg4 : FVec F S4x128x128 .f32) (main_arg5 : FVec F S128x128 .f32) (main_arg6 : FVec F S128x32 .f32) (main_arg7 : FVec F S32 .f32) (main_arg8 : FVec F S128x8 .f32) (main_arg9 : FVec F S8 .f32) : IVec S_ 1 :=
  let main_v0 : FVec F S128x8 .f32 := Host.absf main_arg8
  let main_cst : FVec F S_ .f32 := constant S_ .f32 0x7F800000#32
  let main_v1 : FVec F S128x8 .f32 := broadcastInDim S128x8 ![] bcast_S_S128x8 main_cst
  let main_v2 : IVec S128x8 1 := cmpf .olt main_v0 main_v1
  let main_c : IVec S_ 1 := constantI S_ 1 1#1
  let main_v3 : IVec S_ 1 := (fun x v => Host.reduce IntOp.andi x v reducesTo_S128x8_S_d0_1 h_S_) main_v2 main_c
  main_v3
-- ==== Kernel.lean ====
abbrev S1024x64x16 : Shape := ⟨3, ![1024, 64, 16]⟩
abbrev S1024x4x64x64 : Shape := ⟨4, ![1024, 4, 64, 64]⟩
abbrev S4x16x128 : Shape := ⟨3, ![4, 16, 128]⟩
abbrev S4x128x128 : Shape := ⟨3, ![4, 128, 128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S1x16x128 : Shape := ⟨3, ![1, 16, 128]⟩
abbrev S16x128 : Shape := ⟨2, ![16, 128]⟩
abbrev S16x512 : Shape := ⟨2, ![16, 512]⟩
abbrev S1x128x128 : Shape := ⟨3, ![1, 128, 128]⟩
abbrev S128x512 : Shape := ⟨2, ![128, 512]⟩
abbrev S1x32 : Shape := ⟨2, ![1, 32]⟩
abbrev S1x8 : Shape := ⟨2, ![1, 8]⟩
abbrev S1024x690x4 : Shape := ⟨3, ![1024, 690, 4]⟩
abbrev S1x64x16 : Shape := ⟨3, ![1, 64, 16]⟩
abbrev S1x4x64x64 : Shape := ⟨4, ![1, 4, 64, 64]⟩
abbrev S1x690x4 : Shape := ⟨3, ![1, 690, 4]⟩
abbrev S64x16 : Shape := ⟨2, ![64, 16]⟩
abbrev S4x64x64 : Shape := ⟨3, ![4, 64, 64]⟩
abbrev S1x64x64 : Shape := ⟨3, ![1, 64, 64]⟩
abbrev S64x64 : Shape := ⟨2, ![64, 64]⟩
abbrev S64x256 : Shape := ⟨2, ![64, 256]⟩
abbrev S64x512 : Shape := ⟨2, ![64, 512]⟩
abbrev S64x128 : Shape := ⟨2, ![64, 128]⟩
abbrev S256x128 : Shape := ⟨2, ![256, 128]⟩
abbrev S64x32 : Shape := ⟨2, ![64, 32]⟩
abbrev S64x8 : Shape := ⟨2, ![64, 8]⟩
abbrev S768x1 : Shape := ⟨2, ![768, 1]⟩
abbrev S768x64 : Shape := ⟨2, ![768, 64]⟩
abbrev S768x8 : Shape := ⟨2, ![768, 8]⟩
abbrev S64 : Shape := ⟨1, ![64]⟩
abbrev S64x1 : Shape := ⟨2, ![64, 1]⟩
abbrev S64x4 : Shape := ⟨2, ![64, 4]⟩
abbrev S768x16 : Shape := ⟨2, ![768, 16]⟩
abbrev S768 : Shape := ⟨1, ![768]⟩
abbrev S768x4 : Shape := ⟨2, ![768, 4]⟩
abbrev S690x4 : Shape := ⟨2, ![690, 4]⟩
abbrev S1024x1024 : Shape := ⟨2, ![1024, 1024]⟩
abbrev S1024x2760 : Shape := ⟨2, ![1024, 2760]⟩
abbrev S1024x3784 : Shape := ⟨2, ![1024, 3784]⟩

abbrev nBuf : Space → Nat
  | .hbm => 44
  | .vmem => 16
  | .smem => 0
  | _ => 0

abbrev bufTy : (tb : Table) → Fin (tcTables nBuf tb) → BufTy
  | .hbm, ⟨0, _⟩ => ⟨S1024x64x16, .f32⟩
  | .hbm, ⟨1, _⟩ => ⟨S1024x4x64x64, .f32⟩
  | .hbm, ⟨2, _⟩ => ⟨S4x16x128, .f32⟩
  | .hbm, ⟨3, _⟩ => ⟨S4x128x128, .f32⟩
  | .hbm, ⟨4, _⟩ => ⟨S4x128x128, .f32⟩
  | .hbm, ⟨5, _⟩ => ⟨S128x128, .f32⟩
  | .hbm, ⟨6, _⟩ => ⟨S128x32, .f32⟩
  | .hbm, ⟨7, _⟩ => ⟨S32, .f32⟩
  | .hbm, ⟨8, _⟩ => ⟨S128x8, .f32⟩
  | .hbm, ⟨9, _⟩ => ⟨S8, .f32⟩
  | .hbm, ⟨10, _⟩ => ⟨S1x16x128, .f32⟩
  | .hbm, ⟨11, _⟩ => ⟨S16x128, .f32⟩
  | .hbm, ⟨12, _⟩ => ⟨S1x16x128, .f32⟩
  | .hbm, ⟨13, _⟩ => ⟨S16x128, .f32⟩
  | .hbm, ⟨14, _⟩ => ⟨S1x16x128, .f32⟩
  | .hbm, ⟨15, _⟩ => ⟨S16x128, .f32⟩
  | .hbm, ⟨16, _⟩ => ⟨S1x16x128, .f32⟩
  | .hbm, ⟨17, _⟩ => ⟨S16x128, .f32⟩
  | .hbm, ⟨18, _⟩ => ⟨S16x512, .f32⟩
  | .hbm, ⟨19, _⟩ => ⟨S1x128x128, .f32⟩
  | .hbm, ⟨20, _⟩ => ⟨S128x128, .f32⟩
  | .hbm, ⟨21, _⟩ => ⟨S1x128x128, .f32⟩
  | .hbm, ⟨22, _⟩ => ⟨S128x128, .f32⟩
  | .hbm, ⟨23, _⟩ => ⟨S1x128x128, .f32⟩
  | .hbm, ⟨24, _⟩ => ⟨S128x128, .f32⟩
  | .hbm, ⟨25, _⟩ => ⟨S1x128x128, .f32⟩
  | .hbm, ⟨26, _⟩ => ⟨S128x128, .f32⟩
  | .hbm, ⟨27, _⟩ => ⟨S128x512, .f32⟩
  | .hbm, ⟨28, _⟩ => ⟨S1x128x128, .f32⟩
  | .hbm, ⟨29, _⟩ => ⟨S128x128, .f32⟩
  | .hbm, ⟨30, _⟩ => ⟨S1x128x128, .f32⟩
  | .hbm, ⟨31, _⟩ => ⟨S128x128, .f32⟩
  | .hbm, ⟨32, _⟩ => ⟨S1x128x128, .f32⟩
  | .hbm, ⟨33, _⟩ => ⟨S128x128, .f32⟩
  | .hbm, ⟨34, _⟩ => ⟨S1x128x128, .f32⟩
  | .hbm, ⟨35, _⟩ => ⟨S128x128, .f32⟩
  | .hbm, ⟨36, _⟩ => ⟨S128x512, .f32⟩
  | .hbm, ⟨37, _⟩ => ⟨S1x32, .f32⟩
  | .hbm, ⟨38, _⟩ => ⟨S1x8, .f32⟩
  | .hbm, ⟨39, _⟩ => ⟨S1024x64x16, .f32⟩
  | .hbm, ⟨40, _⟩ => ⟨S1024x690x4, .f32⟩
  | .hbm, ⟨41, _⟩ => ⟨S1024x1024, .f32⟩
  | .hbm, ⟨42, _⟩ => ⟨S1024x2760, .f32⟩
  | .hbm, ⟨43, _⟩ => ⟨S1024x3784, .f32⟩
  | .local _ .vmem, ⟨0, _⟩ => ⟨S1x64x16, .f32⟩
  | .local _ .vmem, ⟨1, _⟩ => ⟨S1x64x16, .f32⟩
  | .local _ .vmem, ⟨2, _⟩ => ⟨S1x4x64x64, .f32⟩
  | .local _ .vmem, ⟨3, _⟩ => ⟨S1x4x64x64, .f32⟩
  | .local _ .vmem, ⟨4, _⟩ => ⟨S16x512, .f32⟩
  | .local _ .vmem, ⟨5, _⟩ => ⟨S128x512, .f32⟩
  | .local _ .vmem, ⟨6, _⟩ => ⟨S128x512, .f32⟩
  | .local _ .vmem, ⟨7, _⟩ => ⟨S128x128, .f32⟩
  | .local _ .vmem, ⟨8, _⟩ => ⟨S128x32, .f32⟩
  | .local _ .vmem, ⟨9, _⟩ => ⟨S1x32, .f32⟩
  | .local _ .vmem, ⟨10, _⟩ => ⟨S128x8, .f32⟩
  | .local _ .vmem, ⟨11, _⟩ => ⟨S1x8, .f32⟩
  | .local _ .vmem, ⟨12, _⟩ => ⟨S1x64x16, .f32⟩
  | .local _ .vmem, ⟨13, _⟩ => ⟨S1x64x16, .f32⟩
  | .local _ .vmem, ⟨14, _⟩ => ⟨S1x690x4, .f32⟩
  | .local _ .vmem, ⟨15, _⟩ => ⟨S1x690x4, .f32⟩
  | _, _ => ⟨S1024x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x690x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S1024x64x16 : Shape := ⟨3, ![1024, 64, 16]⟩
abbrev S1024x4x64x64 : Shape := ⟨4, ![1024, 4, 64, 64]⟩
abbrev S4x16x128 : Shape := ⟨3, ![4, 16, 128]⟩
abbrev S4x128x128 : Shape := ⟨3, ![4, 128, 128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S690 : Shape := ⟨1, ![690]⟩
abbrev S_ : Shape := ⟨0, ![]⟩
abbrev S690x1 : Shape := ⟨2, ![690, 1]⟩
abbrev S690x2 : Shape := ⟨2, ![690, 2]⟩
abbrev S1024x4x690 : Shape := ⟨3, ![1024, 4, 690]⟩
abbrev S1024x690x4 : Shape := ⟨3, ![1024, 690, 4]⟩
abbrev S4x128x1024x64 : Shape := ⟨4, ![4, 128, 1024, 64]⟩
abbrev S1024x4x64x128 : Shape := ⟨4, ![1024, 4, 64, 128]⟩
abbrev S1024x64x128 : Shape := ⟨3, ![1024, 64, 128]⟩
abbrev S1024x64x32 : Shape := ⟨3, ![1024, 64, 32]⟩
abbrev S1x1x32 : Shape := ⟨3, ![1, 1, 32]⟩
abbrev S1024x690x128 : Shape := ⟨3, ![1024, 690, 128]⟩
abbrev S1024x690x8 : Shape := ⟨3, ![1024, 690, 8]⟩
abbrev S1x1x8 : Shape := ⟨3, ![1, 1, 8]⟩
abbrev S1024x1024 : Shape := ⟨2, ![1024, 1024]⟩
abbrev S1024x2760 : Shape := ⟨2, ![1024, 2760]⟩
abbrev S1024x3784 : Shape := ⟨2, ![1024, 3784]⟩

abbrev nBuf : Space → Nat
  | .hbm => 103
  | .vmem => 0
  | .smem => 0
  | _ => 0

abbrev bufTy : (tb : Table) → Fin (tcTables nBuf tb) → BufTy
  | .hbm, ⟨0, _⟩ => ⟨S1024x64x16, .f32⟩
  | .hbm, ⟨1, _⟩ => ⟨S1024x4x64x64, .f32⟩
  | .hbm, ⟨2, _⟩ => ⟨S4x16x128, .f32⟩
  | .hbm, ⟨3, _⟩ => ⟨S4x128x128, .f32⟩
  | .hbm, ⟨4, _⟩ => ⟨S4x128x128, .f32⟩
  | .hbm, ⟨5, _⟩ => ⟨S128x128, .f32⟩
  | .hbm, ⟨6, _⟩ => ⟨S128x32, .f32⟩
  | .hbm, ⟨7, _⟩ => ⟨S32, .f32⟩
  | .hbm, ⟨8, _⟩ => ⟨S128x8, .f32⟩
  | .hbm, ⟨9, _⟩ => ⟨S8, .f32⟩
  | .hbm, ⟨10, _⟩ => ⟨S690, .i32⟩
  | .hbm, ⟨11, _⟩ => ⟨S690, .i1⟩
  | .hbm, ⟨12, _⟩ => ⟨S690, .i32⟩
  | .hbm, ⟨13, _⟩ => ⟨S690, .i1⟩
  | .hbm, ⟨14, _⟩ => ⟨S690, .i1⟩
  | .hbm, ⟨15, _⟩ => ⟨S690, .i1⟩
  | .hbm, ⟨16, _⟩ => ⟨S_, .i32⟩
  | .hbm, ⟨17, _⟩ => ⟨S690, .i32⟩
  | .hbm, ⟨18, _⟩ => ⟨S690, .i32⟩
  | .hbm, ⟨19, _⟩ => ⟨S690, .i32⟩
  | .hbm, ⟨20, _⟩ => ⟨S_, .i32⟩
  | .hbm, ⟨21, _⟩ => ⟨S690, .i32⟩
  | .hbm, ⟨22, _⟩ => ⟨S690, .i32⟩
  | .hbm, ⟨23, _⟩ => ⟨S690, .i32⟩
  | .hbm, ⟨24, _⟩ => ⟨S690x1, .i32⟩
  | .hbm, ⟨25, _⟩ => ⟨S690x1, .i32⟩
  | .hbm, ⟨26, _⟩ => ⟨S690x2, .i32⟩
  | .hbm, ⟨27, _⟩ => ⟨S1024x4x690, .f32⟩
  | .hbm, ⟨28, _⟩ => ⟨S1024x690x4, .f32⟩
  | .hbm, ⟨29, _⟩ => ⟨S4x128x1024x64, .f32⟩
  | .hbm, ⟨30, _⟩ => ⟨S1024x4x64x128, .f32⟩
  | .hbm, ⟨31, _⟩ => ⟨S1024x64x128, .f32⟩
  | .hbm, ⟨32, _⟩ => ⟨S_, .f32⟩
  | .hbm, ⟨33, _⟩ => ⟨S1024x64x128, .f32⟩
  | .hbm, ⟨34, _⟩ => ⟨S1024x64x128, .f32⟩
  | .hbm, ⟨35, _⟩ => ⟨S4x128x1024x64, .f32⟩
  | .hbm, ⟨36, _⟩ => ⟨S1024x4x64x128, .f32⟩
  | .hbm, ⟨37, _⟩ => ⟨S1024x64x128, .f32⟩
  | .hbm, ⟨38, _⟩ => ⟨S_, .f32⟩
  | .hbm, ⟨39, _⟩ => ⟨S1024x64x128, .f32⟩
  | .hbm, ⟨40, _⟩ => ⟨S1024x64x128, .f32⟩
  | .hbm, ⟨41, _⟩ => ⟨S4x128x1024x64, .f32⟩
  | .hbm, ⟨42, _⟩ => ⟨S1024x4x64x128, .f32⟩
  | .hbm, ⟨43, _⟩ => ⟨S1024x64x128, .f32⟩
  | .hbm, ⟨44, _⟩ => ⟨S_, .f32⟩
  | .hbm, ⟨45, _⟩ => ⟨S1024x64x128, .f32⟩
  | .hbm, ⟨46, _⟩ => ⟨S1024x64x128, .f32⟩
  | .hbm, ⟨47, _⟩ => ⟨S1024x64x128, .f32⟩
  | .hbm, ⟨48, _⟩ => ⟨S1024x64x128, .f32⟩
  | .hbm, ⟨49, _⟩ => ⟨S1024x64x32, .f32⟩
  | .hbm, ⟨50, _⟩ => ⟨S1x1x32, .f32⟩
  | .hbm, ⟨51, _⟩ => ⟨S1024x64x32, .f32⟩
  | .hbm, ⟨52, _⟩ => ⟨S1024x64x32, .f32⟩
  | .hbm, ⟨53, _⟩ => ⟨S1024x64x16, .f32⟩
  | .hbm, ⟨54, _⟩ => ⟨S1024x64x16, .f32⟩
  | .hbm, ⟨55, _⟩ => ⟨S_, .f32⟩
  | .hbm, ⟨56, _⟩ => ⟨S1024x64x16, .f32⟩
  | .hbm, ⟨57, _⟩ => ⟨S1024x64x16, .f32⟩
  | .hbm, ⟨58, _⟩ => ⟨S1024x64x16, .f32⟩
  | .hbm, ⟨59, _⟩ => ⟨S1024x64x16, .f32⟩
  | .hbm, ⟨60, _⟩ => ⟨S_, .f32⟩
  | .hbm, ⟨61, _⟩ => ⟨S1024x64x16, .f32⟩
  | .hbm, ⟨62, _⟩ => ⟨S1024x64x16, .f32⟩
  | .hbm, ⟨63, _⟩ => ⟨S_, .f32⟩
  | .hbm, ⟨64, _⟩ => ⟨S1024x64x16, .f32⟩
  | .hbm, ⟨65, _⟩ => ⟨S1024x64x16, .f32⟩
  | .hbm, ⟨66, _⟩ => ⟨S1024x64x16, .f32⟩
  | .hbm, ⟨67, _⟩ => ⟨S1024x64x16, .f32⟩
  | .hbm, ⟨68, _⟩ => ⟨S_, .i32⟩
  | .hbm, ⟨69, _⟩ => ⟨S690, .i32⟩
  | .hbm, ⟨70, _⟩ => ⟨S690, .i32⟩
  | .hbm, ⟨71, _⟩ => ⟨S690, .i32⟩
  | .hbm, ⟨72, _⟩ => ⟨S690x1, .i32⟩
  | .hbm, ⟨73, _⟩ => ⟨S1024x690x128, .f32⟩
  | .hbm, ⟨74, _⟩ => ⟨S_, .i32⟩
  | .hbm, ⟨75, _⟩ => ⟨S690, .i32⟩
  | .hbm, ⟨76, _⟩ => ⟨S690, .i32⟩
  | .hbm, ⟨77, _⟩ => ⟨S690, .i32⟩
  | .hbm, ⟨78, _⟩ => ⟨S690x1, .i32⟩
  | .hbm, ⟨79, _⟩ => ⟨S1024x690x128, .f32⟩
  | .hbm, ⟨80, _⟩ => ⟨S1024x690x128, .f32⟩
  | .hbm, ⟨81, _⟩ => ⟨S1024x690x8, .f32⟩
  | .hbm, ⟨82, _⟩ => ⟨S1x1x8, .f32⟩
  | .hbm, ⟨83, _⟩ => ⟨S1024x690x8, .f32⟩
  | .hbm, ⟨84, _⟩ => ⟨S1024x690x8, .f32⟩
  | .hbm, ⟨85, _⟩ => ⟨S1024x690x4, .f32⟩
  | .hbm, ⟨86, _⟩ => ⟨S1024x690x4, .f32⟩
  | .hbm, ⟨87, _⟩ => ⟨S_, .f32⟩
  | .hbm, ⟨88, _⟩ => ⟨S1024x690x4, .f32⟩
  | .hbm, ⟨89, _⟩ => ⟨S1024x690x4, .f32⟩
  | .hbm, ⟨90, _⟩ => ⟨S1024x690x4, .f32⟩
  | .hbm, ⟨91, _⟩ => ⟨S1024x690x4, .f32⟩
  | .hbm, ⟨92, _⟩ => ⟨S_, .f32⟩
  | .hbm, ⟨93, _⟩ => ⟨S1024x690x4, .f32⟩
  | .hbm, ⟨94, _⟩ => ⟨S1024x690x4, .f32⟩
  | .hbm, ⟨95, _⟩ => ⟨S_, .f32⟩
  | .hbm, ⟨96, _⟩ => ⟨S1024x690x4, .f32⟩
  | .hbm, ⟨97, _⟩ => ⟨S1024x690x4, .f32⟩
  | .hbm, ⟨98, _⟩ => ⟨S1024x690x4, .f32⟩
  | .hbm, ⟨99, _⟩ => ⟨S1024x690x4, .f32⟩
  | .hbm, ⟨100, _⟩ => ⟨S1024x1024, .f32⟩
  | .hbm, ⟨101, _⟩ => ⟨S1024x2760, .f32⟩
  | .hbm, ⟨102, _⟩ => ⟨S1024x3784, .f32⟩
  | _, _ => ⟨S1024x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_c_4 : Ref sig .tc := ⟨.hbm, 15, rfl⟩
abbrev main_c_5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c_6 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_cst : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_cst : Ref sig .tc := ⟨.hbm, 38, rfl⟩
abbrev main_call1_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Proof.Spec.lean ====
/- The mathematics of one molecule, written over plain functions of node, feature and bond numbers: the three graph
   layers, the node embedding, and the two affine updates the results are made of. -/
module

public import Idealize.ShloMosaic.Lib.Pipeline.ValueKit

@[expose] public section

noncomputable section

open Idealize.ShloMosaic

namespace Cert.Spec

/-- The real number two the gates are shifted by, as the word the programs carry. -/
abbrev two : Ideal .f32 := Ideal.ofBits .f32 0x40000000#32

/-- ONE GRAPH LAYER: at node `i` and feature `o`, the sum over the bond kinds `r` and the nodes `n` of the bond weight
    `A r i n` times the transformed feature `∑ d, h n d * W r d o`, cut off below at zero. -/
def layer {k : Nat} (A : Fin 4 → Fin 64 → Fin 64 → Ideal .f32) (h : Fin 64 → Fin k → Ideal .f32)
    (W : Fin 4 → Fin k → Fin 128 → Ideal .f32) (i : Fin 64) (o : Fin 128) : Ideal .f32 :=
  max (∑ r : Fin 4, ∑ n : Fin 64, A r i n * ∑ d : Fin k, h n d * W r d o) 0

/-- THE NODE EMBEDDING: three layers, a projection, and the hyperbolic tangent. -/
def embed (A : Fin 4 → Fin 64 → Fin 64 → Ideal .f32) (x : Fin 64 → Fin 16 → Ideal .f32)
    (W0 : Fin 4 → Fin 16 → Fin 128 → Ideal .f32) (W1 W2 : Fin 4 → Fin 128 → Fin 128 → Ideal .f32)
    (P : Fin 128 → Fin 128 → Ideal .f32) (i : Fin 64) (o : Fin 128) : Ideal .f32 :=
  Ideal.tanh (∑ j : Fin 128, layer A (layer A (layer A x W0) W1) W2 i j * P j o)

/-- THE AFFINE UPDATE both results end in: `x` times the logistic of `s + 2`, plus `t`. -/
def affine (x s t : Ideal .f32) : Ideal .f32 := x * Ideal.logistic (s + two) + t

/-- A linear read-out of a feature row: the row times column `q` of the weights, plus the bias. -/
def readout {k : Nat} (e : Fin 128 → Ideal .f32) (w : Fin 128 → Fin k → Ideal .f32) (b : Fin k → Ideal .f32) (q : Fin k) :
    Ideal .f32 := (∑ o : Fin 128, e o * w o q) + b q

/-- THE NODE RESULT at node `i` and feature `f`. -/
def node (x : Fin 64 → Fin 16 → Ideal .f32) (e : Fin 64 → Fin 128 → Ideal .f32) (w : Fin 128 → Fin 32 → Ideal .f32)
    (b : Fin 32 → Ideal .f32) (i : Fin 64) (f : Fin 16) : Ideal .f32 :=
  affine (x i f) (readout (e i) w b ⟨f.val, by omega⟩) (readout (e i) w b ⟨16 + f.val, by omega⟩)

/-- THE EDGE RESULT of the node pair `(i, j)` at bond kind `r`: the read-out is of the SUM of the two embeddings. -/
def edge (A : Fin 4 → Fin 64 → Fin 64 → Ideal .f32) (e : Fin 64 → Fin 128 → Ideal .f32) (w : Fin 128 → Fin 8 → Ideal .f32)
    (b : Fin 8 → Ideal .f32) (i j : Fin 64) (r : Fin 4) : Ideal .f32 :=
  affine (A r i j) (readout (fun o => e i o + e j o) w b ⟨r.val, by omega⟩) (readout (fun o => e i o + e j o) w b ⟨4 + r.val, by omega⟩)

/-- The edge result with the weights applied to the two embeddings apart and the products added afterwards. -/
def edgeApart (A : Fin 4 → Fin 64 → Fin 64 → Ideal .f32) (e : Fin 64 → Fin 128 → Ideal .f32) (w : Fin 128 → Fin 8 → Ideal .f32)
    (b : Fin 8 → Ideal .f32) (i j : Fin 64) (r : Fin 4) : Ideal .f32 :=
  affine (A r i j) (((∑ o : Fin 128, e i o * w o ⟨r.val, by omega⟩) + ∑ o : Fin 128, e j o * w o ⟨r.val, by omega⟩) + b ⟨r.val, by omega⟩)
    (((∑ o : Fin 128, e i o * w o ⟨4 + r.val, by omega⟩) + ∑ o : Fin 128, e j o * w o ⟨4 + r.val, by omega⟩) + b ⟨4 + r.val, by omega⟩)

/-- THE TWO AGREE when the embeddings are not infinite and the weights are not infinite: then the product distributes. -/
theorem edgeApart_eq (A : Fin 4 → Fin 64 → Fin 64 → Ideal .f32) (e : Fin 64 → Fin 128 → Ideal .f32) (w : Fin 128 → Fin 8 → Ideal .f32)
    (b : Fin 8 → Ideal .f32) (he : ∀ n o, ∃ u : ℝ, e n o = (u : EReal)) (hw : ∀ o q, ∃ u : ℝ, w o q = (u : EReal)) (i j : Fin 64) (r : Fin 4) :
    edgeApart A e w b i j r = edge A e w b i j r := by
  have h : ∀ q, (∑ o : Fin 128, e i o * w o q) + (∑ o : Fin 128, e j o * w o q) = ∑ o : Fin 128, (e i o + e j o) * w o q := fun q => by
    rw [← Finset.sum_add_distrib]
    refine Finset.sum_congr rfl fun o _ => ?_
    obtain ⟨s, hs⟩ := he i o
    obtain ⟨t, ht⟩ := he j o
    obtain ⟨u, hu⟩ := hw o q
    rw [hs, ht, hu]
    show (s : EReal) * (u : EReal) + (t : EReal) * (u : EReal) = ((s : EReal) + (t : EReal)) * (u : EReal)
    rw [← EReal.coe_add, ← EReal.coe_mul, ← EReal.coe_mul, ← EReal.coe_mul, ← EReal.coe_add, add_mul]
  unfold edgeApart edge readout
  rw [h, h]

/-- The hyperbolic tangent is never infinite. -/
theorem tanh_real (x : Ideal .f32) : ∃ u : ℝ, Ideal.tanh x = (u : EReal) := by
  induction x using EReal.rec with
  | bot => exact ⟨-1, rfl⟩
  | coe u => exact ⟨Real.tanh u, rfl⟩
  | top => exact ⟨1, rfl⟩

/-- So an embedding is never infinite. -/
theorem embed_real (A : Fin 4 → Fin 64 → Fin 64 → Ideal .f32) (x : Fin 64 → Fin 16 → Ideal .f32)
    (W0 : Fin 4 → Fin 16 → Fin 128 → Ideal .f32) (W1 W2 : Fin 4 → Fin 128 → Fin 128 → Ideal .f32)
    (P : Fin 128 → Fin 128 → Ideal .f32) (i : Fin 64) (o : Fin 128) : ∃ u : ℝ, embed A x W0 W1 W2 P i o = (u : EReal) := tanh_real _

end Cert.Spec

end
-- ==== Proof.RefRead.lean ====
/- What the reference computes, read at one molecule, node or edge: its layers, embeddings, gathers and two affine updates. -/
module

public import proofs.«01_k».proof.Proof.Spec
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- One layer of the reference as an array, from the transformed features `y` of every bond kind. -/
def aggr (A : FVec Ideal S1024x4x64x64 .f32) (y : FVec Ideal S4x128x1024x64 .f32) : FVec Ideal S1024x64x128 .f32 :=
  maximumf (Host.dotGeneral dot_S1024x4x64x64_S1024x4x64x128_S1024x64x128_31_21_2_3_0_0 none A
    (transpose S1024x4x64x128 [2, 0, 3, 1] y transposes_S4x128x1024x64_S1024x4x64x128_2_0_3_1))
    (broadcastInDim S1024x64x128 ![] bcast_S_S1024x64x128 (constant S_ .f32 0x00000000#32))

/-- The reference's first layer, whose features have 16 entries. -/
def layer16 (A : FVec Ideal S1024x4x64x64 .f32) (W : FVec Ideal S4x16x128 .f32) (x : FVec Ideal S1024x64x16 .f32) : FVec Ideal S1024x64x128 .f32 :=
  aggr A (Host.dotGeneral dot_S4x16x128_S1024x64x16_S4x128x1024x64_1_2_02_01_n_n none W x)

/-- The reference's second and third layer, whose features have 128 entries. -/
def layer128 (A : FVec Ideal S1024x4x64x64 .f32) (W : FVec Ideal S4x128x128 .f32) (x : FVec Ideal S1024x64x128 .f32) : FVec Ideal S1024x64x128 .f32 :=
  aggr A (Host.dotGeneral dot_S4x128x128_S1024x64x128_S4x128x1024x64_1_2_02_01_n_n none W x)

/-- The reference's node embeddings: three layers, the projection, the hyperbolic tangent. -/
def emb (x : FVec Ideal S1024x64x16 .f32) (A : FVec Ideal S1024x4x64x64 .f32) (W0 : FVec Ideal S4x16x128 .f32)
    (W1 W2 : FVec Ideal S4x128x128 .f32) (P : FVec Ideal S128x128 .f32) : FVec Ideal S1024x64x128 .f32 :=
  Host.tanh (Host.dotGeneral dot_S1024x64x128_S128x128_S1024x64x128_2_0_01_1_n_n none (layer128 A W2 (layer128 A W1 (layer16 A W0 x))) P)

/-- The reference's read-out of every node. -/
def nodeLin (h : FVec Ideal S1024x64x128 .f32) (w : FVec Ideal S128x32 .f32) (β : FVec Ideal S32 .f32) : FVec Ideal S1024x64x32 .f32 :=
  addf (Host.dotGeneral dot_S1024x64x128_S128x32_S1024x64x32_2_0_01_1_n_n none h w)
    (broadcastInDim S1024x64x32 ![0, 1, 2] bcast_S1x1x32_S1024x64x32_0_1_2 (broadcastInDim S1x1x32 ![2] bcast_S32_S1x1x32_2 β))

/-- The reference's node result. -/
def nodeRes (x : FVec Ideal S1024x64x16 .f32) (s : FVec Ideal S1024x64x32 .f32) : FVec Ideal S1024x64x16 .f32 :=
  addf (mulf x (Host.divf (broadcastInDim S1024x64x16 ![] bcast_S_S1024x64x16 (constant S_ .f32 0x3F800000#32))
      (addf (broadcastInDim S1024x64x16 ![] bcast_S_S1024x64x16 (constant S_ .f32 0x3F800000#32))
        (Host.exp (Host.negf (addf (extractStridedSlice S1024x64x16 ![0, 0, 0] s slices_S1024x64x32_S1024x64x16_0_0_0)
          (broadcastInDim S1024x64x16 ![] bcast_S_S1024x64x16 (constant S_ .f32 0x40000000#32))))))))
    (extractStridedSlice S1024x64x16 ![0, 0, 16] s slices_S1024x64x32_S1024x64x16_0_0_16)

/-- A table of node numbers as the reference indexes with it: a select whose condition is nowhere true leaves it as it is. -/
def nodeTable (T : IVec S690 32) : IVec S690x1 32 :=
  broadcastInDim S690x1 ![0] bcast_S690_S690x1_0 (select (constantI S690 1 0#1)
    (addi T (broadcastInDim S690 ![] bcast_S_S690 (constantI S_ 32 64#32))) T)

/-- The table of the edges' target nodes. -/
def tDst : IVec S690 32 := fun i => lit0 (S690.rowMajor i)
/-- The table of the edges' source nodes. -/
def tSrc : IVec S690 32 := fun i => lit1 (S690.rowMajor i)

/-- The reference's embeddings gathered along a table of nodes. -/
def embAt (h : FVec Ideal S1024x64x128 .f32) (T : IVec S690 32) : FVec Ideal S1024x690x128 .f32 :=
  Host.gather gather_S1024x64x128_S690x1_S1024x690x128_02_1_n_n_1_1_10241128 h (nodeTable T)

/-- The reference's bond features gathered along the edges. -/
def bondAt (A : FVec Ideal S1024x4x64x64 .f32) : FVec Ideal S1024x690x4 .f32 :=
  transpose S1024x690x4 [0, 2, 1] (Host.gather gather_S1024x4x64x64_S690x2_S1024x4x690_01_23_n_n_23_1_1024411 A
    (fn_main_v8 (F := Ideal) (nodeTable tDst) (nodeTable tSrc))) transposes_S1024x4x690_S1024x690x4_0_2_1

/-- The reference's read-out of every edge. -/
def edgeLin (h : FVec Ideal S1024x64x128 .f32) (w : FVec Ideal S128x8 .f32) (β : FVec Ideal S8 .f32) : FVec Ideal S1024x690x8 .f32 :=
  addf (Host.dotGeneral dot_S1024x690x128_S128x8_S1024x690x8_2_0_01_1_n_n none (addf (embAt h tDst) (embAt h tSrc)) w)
    (broadcastInDim S1024x690x8 ![0, 1, 2] bcast_S1x1x8_S1024x690x8_0_1_2 (broadcastInDim S1x1x8 ![2] bcast_S8_S1x1x8_2 β))

/-- The reference's edge result. -/
def edgeRes (x : FVec Ideal S1024x690x4 .f32) (s : FVec Ideal S1024x690x8 .f32) : FVec Ideal S1024x690x4 .f32 :=
  addf (mulf x (Host.divf (broadcastInDim S1024x690x4 ![] bcast_S_S1024x690x4 (constant S_ .f32 0x3F800000#32))
      (addf (broadcastInDim S1024x690x4 ![] bcast_S_S1024x690x4 (constant S_ .f32 0x3F800000#32))
        (Host.exp (Host.negf (addf (extractStridedSlice S1024x690x4 ![0, 0, 0] s slices_S1024x690x8_S1024x690x4_0_0_0)
          (broadcastInDim S1024x690x4 ![] bcast_S_S1024x690x4 (constant S_ .f32 0x40000000#32))))))))
    (extractStridedSlice S1024x690x4 ![0, 0, 4] s slices_S1024x690x8_S1024x690x4_0_0_4)

variable (m : (ℓ : Loc nD τ sig) → Buf (Elt Ideal) ℓ) (c : Dev nD)

/-- The reference's embeddings of its own arguments. -/
def embM : FVec Ideal S1024x64x128 .f32 :=
  emb (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- THE REFERENCE'S RESULT is the node result and the edge result, each flattened, laid end to end. -/
theorem res_eq : res_out0 m c = fn_main_v70 (F := Ideal)
    (shapeCast S1024x1024 (nodeRes (m ((c.tc : Thread nD τ).loc main_arg0))
      (nodeLin (embM m c) (m ((c.tc : Thread nD τ).loc main_arg6)) (m ((c.tc : Thread nD τ).loc main_arg7)))) shapeCasts_S1024x64x16_S1024x1024)
    (shapeCast S1024x2760 (edgeRes (bondAt (m ((c.tc : Thread nD τ).loc main_arg1)))
      (edgeLin (embM m c) (m ((c.tc : Thread nD τ).loc main_arg8)) (m ((c.tc : Thread nD τ).loc main_arg9)))) shapeCasts_S1024x690x4_S1024x2760) := by
  unfold res_out0 res_main_v70; rfl

/-- The reference's first layer is one graph layer of every molecule. -/
theorem layer16_at (A : FVec Ideal S1024x4x64x64 .f32) (W : FVec Ideal S4x16x128 .f32) (x : FVec Ideal S1024x64x16 .f32)
    (b : Fin 1024) (i : Fin 64) (o : Fin 128) :
    layer16 A W x (ix3 b i o) = Spec.layer (fun r i n => A (ix4 b r i n)) (fun n d => x (ix3 b n d)) (fun r d o => W (ix3 r d o)) i o := by
  pointwise [layer16, aggr, Spec.layer]
  rw [Finset.sum_comm]
  simp only [mul_comm (W _)]

/-- Its later layers are too. -/
theorem layer128_at (A : FVec Ideal S1024x4x64x64 .f32) (W : FVec Ideal S4x128x128 .f32) (x : FVec Ideal S1024x64x128 .f32)
    (b : Fin 1024) (i : Fin 64) (o : Fin 128) :
    layer128 A W x (ix3 b i o) = Spec.layer (fun r i n => A (ix4 b r i n)) (fun n d => x (ix3 b n d)) (fun r d o => W (ix3 r d o)) i o := by
  pointwise [layer128, aggr, Spec.layer]
  rw [Finset.sum_comm]
  simp only [mul_comm (W _)]

/-- THE REFERENCE'S EMBEDDINGS are the node embeddings of every molecule. -/
theorem emb_at (x : FVec Ideal S1024x64x16 .f32) (A : FVec Ideal S1024x4x64x64 .f32) (W0 : FVec Ideal S4x16x128 .f32)
    (W1 W2 : FVec Ideal S4x128x128 .f32) (P : FVec Ideal S128x128 .f32) (b : Fin 1024) (i : Fin 64) (o : Fin 128) :
    emb x A W0 W1 W2 P (ix3 b i o) = Spec.embed (fun r i n => A (ix4 b r i n)) (fun n d => x (ix3 b n d))
      (fun r d o => W0 (ix3 r d o)) (fun r d o => W1 (ix3 r d o)) (fun r d o => W2 (ix3 r d o)) (fun j o => P (ix2 j o)) i o := by
  pointwise [emb, Spec.embed]
  simp only [layer128_at, layer16_at]

/-- THE REFERENCE'S NODE RESULT from its embeddings. -/
theorem nodeRes_at (x : FVec Ideal S1024x64x16 .f32) (h : FVec Ideal S1024x64x128 .f32) (w : FVec Ideal S128x32 .f32) (β : FVec Ideal S32 .f32)
    (b : Fin 1024) (i : Fin 64) (f : Fin 16) :
    nodeRes x (nodeLin h w β) (ix3 b i f) = Spec.node (fun n d => x (ix3 b n d)) (fun n o => h (ix3 b n o)) (fun o q => w (ix2 o q)) (fun q => β (ix1 q)) i f := by
  pointwise [nodeRes, nodeLin, Spec.node, Spec.affine, Spec.readout, Ideal.logistic, Spec.two]

/-- A word below 64 read as a signed integer and cut to 63 is the number it stands for. -/
theorem word_node (n : Fin 64) : min (BitVec.ofNat 32 n.val).toInt.toNat (64 - 1) = n.val := by
  revert n; decide

/-- A table of nodes as the reference indexes with it, at an edge, is the table's entry. -/
theorem nodeTable_at (T : IVec S690 32) (e : Fin 690) : nodeTable T (ix2 e 0) = T (ix1 e) := by
  pointwise [nodeTable]

/-- The embeddings gathered along a table, at an edge whose table entry is node `n`, are node `n`'s. -/
theorem embAt_at (h : FVec Ideal S1024x64x128 .f32) (T : IVec S690 32) (b : Fin 1024) (e : Fin 690) (o : Fin 128) (n : Fin 64)
    (hn : T (ix1 e) = BitVec.ofNat 32 n.val) : embAt h T (ix3 b e o) = h (ix3 b n o) := by
  have key : ∀ idx : IVec S690x1 32, idx (ix2 e 0) = BitVec.ofNat 32 n.val →
      Host.gather gather_S1024x64x128_S690x1_S1024x690x128_02_1_n_n_1_1_10241128 h idx (ix3 b e o) = h (ix3 b n o) := by
    intro idx hi
    have hs : gather_S1024x64x128_S690x1_S1024x690x128_02_1_n_n_1_1_10241128.siIdx (ix3 b e o) ⟨0, by decide⟩ = ix2 e 0 := by
      funext a
      match a with
      | ⟨0, _⟩ => rfl
      | ⟨1, _⟩ => rfl
    unfold Host.gather
    congr 1
    funext a
    refine Fin.ext ?_
    match a with
    | ⟨0, _⟩ => show 0 + 0 + b.val = b.val; omega
    | ⟨1, _⟩ =>
      show min (idx (gather_S1024x64x128_S690x1_S1024x690x128_02_1_n_n_1_1_10241128.siIdx (ix3 b e o) ⟨0, by decide⟩)).toInt.toNat (64 - 1) + 0 + 0 = n.val
      rw [hs, hi]; exact word_node n
    | ⟨2, _⟩ => show 0 + 0 + o.val = o.val; omega
  exact key _ ((nodeTable_at T e).trans hn)

/-- The bond features gathered along the edges, at an edge from node `j` to node `i`. -/
theorem bondAt_at (A : FVec Ideal S1024x4x64x64 .f32) (b : Fin 1024) (e : Fin 690) (r : Fin 4) (i j : Fin 64)
    (hi : tDst (ix1 e) = BitVec.ofNat 32 i.val) (hj : tSrc (ix1 e) = BitVec.ofNat 32 j.val) : bondAt A (ix3 b e r) = A (ix4 b r i j) := by
  have key : ∀ idx : IVec S690x2 32, idx (ix2 e 0) = BitVec.ofNat 32 i.val → idx (ix2 e 1) = BitVec.ofNat 32 j.val →
      Host.gather gather_S1024x4x64x64_S690x2_S1024x4x690_01_23_n_n_23_1_1024411 A idx (ix3 b r e) = A (ix4 b r i j) := by
    intro idx hi hj
    have hs : ∀ k : Fin 2, gather_S1024x4x64x64_S690x2_S1024x4x690_01_23_n_n_23_1_1024411.siIdx (ix3 b r e) k = ix2 e k := by
      intro k
      funext a
      match a with
      | ⟨0, _⟩ => rfl
      | ⟨1, _⟩ => rfl
    unfold Host.gather
    congr 1
    funext a
    refine Fin.ext ?_
    match a with
    | ⟨0, _⟩ => show 0 + 0 + b.val = b.val; omega
    | ⟨1, _⟩ => show 0 + 0 + r.val = r.val; omega
    | ⟨2, _⟩ =>
      show min (idx (gather_S1024x4x64x64_S690x2_S1024x4x690_01_23_n_n_23_1_1024411.siIdx (ix3 b r e) (0 : Fin 2))).toInt.toNat (64 - 1) + 0 + 0 = i.val
      rw [hs, hi]; exact word_node i
    | ⟨3, _⟩ =>
      show min (idx (gather_S1024x4x64x64_S690x2_S1024x4x690_01_23_n_n_23_1_1024411.siIdx (ix3 b r e) (1 : Fin 2))).toInt.toNat (64 - 1) + 0 + 0 = j.val
      rw [hs, hj]; exact word_node j
  have h0 : fn_main_v8 (F := Ideal) (nodeTable tDst) (nodeTable tSrc) (ix2 e 0) = BitVec.ofNat 32 i.val := by
    rw [← hi, ← nodeTable_at tDst e]; unfold fn_main_v8; pointwise
  have h1 : fn_main_v8 (F := Ideal) (nodeTable tDst) (nodeTable tSrc) (ix2 e 1) = BitVec.ofNat 32 j.val := by
    rw [← hj, ← nodeTable_at tSrc e]; unfold fn_main_v8; pointwise
  unfold bondAt
  rw [show transpose S1024x690x4 [0, 2, 1] (Host.gather gather_S1024x4x64x64_S690x2_S1024x4x690_01_23_n_n_23_1_1024411 A
    (fn_main_v8 (F := Ideal) (nodeTable tDst) (nodeTable tSrc))) transposes_S1024x4x690_S1024x690x4_0_2_1 (ix3 b e r) =
    Host.gather gather_S1024x4x64x64_S690x2_S1024x4x690_01_23_n_n_23_1_1024411 A
      (fn_main_v8 (F := Ideal) (nodeTable tDst) (nodeTable tSrc)) (ix3 b r e) from by pointwise]
  exact key _ h0 h1

/-- The reference's edge result at an edge from node `j` to node `i` is the edge update of that pair. -/
theorem edgeRes_at (A : FVec Ideal S1024x4x64x64 .f32) (h : FVec Ideal S1024x64x128 .f32) (w : FVec Ideal S128x8 .f32) (β : FVec Ideal S8 .f32)
    (b : Fin 1024) (e : Fin 690) (r : Fin 4) (i j : Fin 64)
    (hi : tDst (ix1 e) = BitVec.ofNat 32 i.val) (hj : tSrc (ix1 e) = BitVec.ofNat 32 j.val) :
    edgeRes (bondAt A) (edgeLin h w β) (ix3 b e r) = Spec.edge (fun r i n => A (ix4 b r i n)) (fun n o => h (ix3 b n o))
      (fun o q => w (ix2 o q)) (fun q => β (ix1 q)) i j r := by
  pointwise [edgeRes, edgeLin, Spec.edge, Spec.affine, Spec.readout, Ideal.logistic, Spec.two]
  simp only [bondAt_at A b e r i j hi hj, embAt_at h tDst b e _ i hi, embAt_at h tSrc b e _ j hj]

end Cert.ReferenceIdeal.Value

end
-- ==== Proof.NodeBlock.lean ====
/- One molecule's node part as the kernel computes it: the three layers over the four bond kinds side by side, the
   embeddings, and the node result. -/
module

public import proofs.«01_k».proof.Proof.Spec
public import proofs.«01_k».proof.Proof.Gen.KernelIdeal.Frame

@[expose] public section

set_option maxRecDepth 16384

noncomputable section

open Idealize.ShloMosaic Idealize.ShloMosaic.TcCoe Idealize.SL.Sem

namespace Cert.KernelIdeal.Value

open Cert.KernelIdeal Cert.KernelIdeal.Gen

/-- One layer's aggregation: the four bond matrices side by side times the four transformed feature blocks on top of
    each other, cut off below at zero. -/
def aggr (a : FVec Ideal S64x256 .f32) (y : FVec Ideal S64x512 .f32) : FVec Ideal S64x128 .f32 :=
  maximumf (matmul dot_S64x256_S256x128_S64x128_1_0_0_1_n_n none a
    (concatenate S256x128 0 [⟨S64x128, extractStridedSlice S64x128 ![0, 0] y slices_S64x512_o0_0_S64x128⟩,
      ⟨S64x128, extractStridedSlice S64x128 ![0, 128] y slices_S64x512_o0_128_S64x128⟩,
      ⟨S64x128, extractStridedSlice S64x128 ![0, 256] y slices_S64x512_o0_256_S64x128⟩,
      ⟨S64x128, extractStridedSlice S64x128 ![0, 384] y slices_S64x512_o0_384_S64x128⟩]
      concatenates_S64x128_S64x128_S64x128_S64x128_S256x128_d0)
    (constant S64x128 .f32 0x00000000#32)) (broadcast S64x128 (Scalar.ofBits .f32 0x00000000#32 : Ideal .f32))

/-- The column of the transformed features where bond kind `r`'s feature `o` lies. -/
abbrev col (r : Fin 4) (o : Fin 128) : Fin 512 := ⟨128 * r.val + o.val, by omega⟩

/-- The aggregation at a node: over all bond kinds and nodes the bond feature times the transformed feature of its kind, cut off below at zero. -/
theorem aggr_at (v : Vec Ideal S1x4x64x64 .f32) (y : FVec Ideal S64x512 .f32) (i : Fin 64) (o : Fin 128) :
    aggr (k0_pay4 v) y (ix2 i o) = max (∑ r : Fin 4, ∑ n : Fin 64, v (ix4 0 r i n) * y (ix2 n (col r o))) 0 := by
  pointwise [aggr, k0_pay4, k0_pay3]
  refine congrArg (max · 0) ?_
  rw [Fin.sum_univ_tiles 4 64 rfl]
  refine Finset.sum_congr rfl fun r _ => Finset.sum_congr rfl fun n _ => ?_
  have hn := n.isLt
  fin_cases r
  all_goals
    simp only [col, Nat.reduceMul, Nat.zero_mul, Nat.zero_add, Nat.one_mul]
    split_ifs
    all_goals try omega
    refine congrArg₂ (· * ·) (congrArg v ?_) (congrArg y ?_)
  all_goals idx_ext

/-- The first layer's transformed features, of all four bond kinds side by side. -/
def lin16 (v0 : Vec Ideal S1x64x16 .f32) (w : FVec Ideal S16x512 .f32) : FVec Ideal S64x512 .f32 :=
  matmul dot_S64x16_S16x512_S64x512_1_0_0_1_n_n none (k0_pay2 v0) (shapeCast S16x512 w shapeCasts_S16x512_S16x512)
    (constant S64x512 .f32 0x00000000#32)

/-- A later layer's transformed features. -/
def lin128 (h : FVec Ideal S64x128 .f32) (w : FVec Ideal S128x512 .f32) : FVec Ideal S64x512 .f32 :=
  matmul dot_S64x128_S128x512_S64x512_1_0_0_1_n_n none h (shapeCast S128x512 w shapeCasts_S128x512_S128x512)
    (constant S64x512 .f32 0x00000000#32)

/-- What the third layer aggregates: the second layer's result, transformed. -/
theorem pay5_eq (v0 : Vec Ideal S1x64x16 .f32) (v : Vec Ideal S1x4x64x64 .f32) (w0 : Vec Ideal S16x512 .f32) (w1 w2 : Vec Ideal S128x512 .f32) :
    k0_pay5 v0 v w0 w1 w2 = lin128 (aggr (k0_pay4 v) (lin128 (aggr (k0_pay4 v) (lin16 v0 w0)) w1)) w2 := rfl

/-- The embeddings from the third layer's transformed features. -/
theorem pay7_eq (a : FVec Ideal S64x256 .f32) (y : FVec Ideal S64x512 .f32) (p : Vec Ideal S128x128 .f32) :
    k0_pay7 a y (extractStridedSlice S64x128 ![0, 0] y slices_S64x512_o0_0_S64x128) p
      = tanh (matmul dot_S64x128_S128x128_S64x128_1_0_0_1_n_n none (aggr a y) (φ₂ := .f32) p (constant S64x128 .f32 0x00000000#32)) := rfl

/-- The first layer's transformed features are the plain product. -/
theorem lin16_at (v0 : Vec Ideal S1x64x16 .f32) (w : FVec Ideal S16x512 .f32) (n : Fin 64) (q : Fin 512) :
    lin16 v0 w (ix2 n q) = ∑ d : Fin 16, v0 (ix3 0 n d) * w (ix2 d q) := by
  pointwise [lin16, k0_pay2]

/-- A later layer's transformed features are the plain product. -/
theorem lin128_at (h : FVec Ideal S64x128 .f32) (w : FVec Ideal S128x512 .f32) (n : Fin 64) (q : Fin 512) :
    lin128 h w (ix2 n q) = ∑ d : Fin 128, h (ix2 n d) * w (ix2 d q) := by
  pointwise [lin128]

/-- The kernel's embeddings of one molecule. -/
def embK (v0 : Vec Ideal S1x64x16 .f32) (v : Vec Ideal S1x4x64x64 .f32) (w0 : Vec Ideal S16x512 .f32) (w1 w2 : Vec Ideal S128x512 .f32)
    (p : Vec Ideal S128x128 .f32) : FVec Ideal S64x128 .f32 :=
  k0_pay7 (k0_pay4 v) (k0_pay5 v0 v w0 w1 w2) (k0_pay6 v0 v w0 w1 w2) p

/-- THE KERNEL'S EMBEDDINGS are the node embeddings of the molecule, the weights of the four bond kinds read side by side. -/
theorem embK_at (v0 : Vec Ideal S1x64x16 .f32) (v : Vec Ideal S1x4x64x64 .f32) (w0 : Vec Ideal S16x512 .f32) (w1 w2 : Vec Ideal S128x512 .f32)
    (p : Vec Ideal S128x128 .f32) (i : Fin 64) (o : Fin 128) :
    embK v0 v w0 w1 w2 p (ix2 i o) = Spec.embed (fun r i n => v (ix4 0 r i n)) (fun n d => v0 (ix3 0 n d))
      (fun r d o => w0 (ix2 d (col r o))) (fun r d o => w1 (ix2 d (col r o))) (fun r d o => w2 (ix2 d (col r o))) (fun j o => p (ix2 j o)) i o := by
  unfold embK k0_pay6
  rw [pay7_eq, pay5_eq]
  pointwise [Spec.embed, Spec.layer]
  simp only [aggr_at, lin128_at, lin16_at]

/-- What the kernel stores for the nodes of one molecule. -/
def nodeK (v0 : Vec Ideal S1x64x16 .f32) (v : Vec Ideal S1x4x64x64 .f32) (w0 : Vec Ideal S16x512 .f32) (w1 w2 : Vec Ideal S128x512 .f32)
    (p : Vec Ideal S128x128 .f32) (w : Vec Ideal S128x32 .f32) (b : Vec Ideal S1x32 .f32) : FVec Ideal S1x64x16 .f32 :=
  k0_pay8 (k0_pay2 v0) (k0_pay4 v) (k0_pay5 v0 v w0 w1 w2) (k0_pay6 v0 v w0 w1 w2) p w b

/-- The kernel's first output block is that, stored whole. -/
theorem out0_10_eq (x0 : Vec Ideal S1x64x16 .f32) (x1 : Vec Ideal S1x4x64x64 .f32) (x2 : Vec Ideal S16x512 .f32) (x3 x4 : Vec Ideal S128x512 .f32)
    (x5 : Vec Ideal S128x128 .f32) (x6 : Vec Ideal S128x32 .f32) (x7 : Vec Ideal S1x32 .f32) (x8 : Vec Ideal S128x8 .f32) (x9 : Vec Ideal S1x8 .f32) :
    out0_10 x0 x1 x2 x3 x4 x5 x6 x7 x8 x9 = View.canon [⟨r0_0, nodeK (View.ld x0 r0_0) (View.ld x1 r0_1) (View.ld x2 r0_2) (View.ld x3 r0_3)
      (View.ld x4 r0_3) (View.ld x5 r0_4) (View.ld x6 r0_5) (View.ld x7 r0_6)⟩] := rfl

/-- THE KERNEL'S NODE RESULT from its embeddings. -/
theorem node_at (v0 : Vec Ideal S1x64x16 .f32) (v : Vec Ideal S1x4x64x64 .f32) (w0 : Vec Ideal S16x512 .f32) (w1 w2 : Vec Ideal S128x512 .f32)
    (p : Vec Ideal S128x128 .f32) (w : Vec Ideal S128x32 .f32) (b : Vec Ideal S1x32 .f32) (i : Fin 64) (f : Fin 16) :
    nodeK v0 v w0 w1 w2 p w b (ix3 0 i f)
      = Spec.node (fun n d => v0 (ix3 0 n d)) (fun n o => embK v0 v w0 w1 w2 p (ix2 n o)) (fun o q => w (ix2 o q)) (fun q => b (ix2 0 q)) i f := by
  unfold nodeK
  pointwise [k0_pay8, k0_pay2, Spec.node, Spec.affine, Spec.readout, Spec.two]
  rfl

end Cert.KernelIdeal.Value

end
-- ==== Proof.Entry.lean ====
/- The arrays the kernel is entered with, as entries of the program's arguments: the weights of the four bond kinds laid side
   by side, and the two biases made rows. -/
module

public import proofs.«01_k».proof.Proof.NodeBlock
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen

/-- Four matrices of the first layer's weights side by side. -/
def side16 (a : Fin 4 → FVec Ideal S16x128 .f32) : FVec Ideal S16x512 .f32 :=
  concatenate S16x512 1 [⟨S16x128, a 0⟩, ⟨S16x128, a 1⟩, ⟨S16x128, a 2⟩, ⟨S16x128, a 3⟩]
    concatenates_S16x128_S16x128_S16x128_S16x128_S16x512_d1

/-- Matrix `r`'s column `o` is column `128 r + o` of the four side by side. -/
theorem side16_at (a : Fin 4 → FVec Ideal S16x128 .f32) (d : Fin 16) (r : Fin 4) (o : Fin 128) :
    side16 a (ix2 d (col r o)) = a r (ix2 d o) := by
  pointwise [side16]
  have ho := o.isLt
  fin_cases r
  all_goals
    simp only [Nat.reduceMul, Nat.zero_add]
    split_ifs
    all_goals try omega
    refine congrArg (a _) ?_
  all_goals idx_ext

/-- The four matrices, as the program cuts them out of one array. -/
def cut16 (W : FVec Ideal S4x16x128 .f32) : Fin 4 → FVec Ideal S16x128 .f32 :=
  ![shapeCast S16x128 (extractStridedSlice S1x16x128 ![0, 0, 0] W slices_S4x16x128_S1x16x128_0_0_0) shapeCasts_S1x16x128_S16x128,
    shapeCast S16x128 (extractStridedSlice S1x16x128 ![1, 0, 0] W slices_S4x16x128_S1x16x128_1_0_0) shapeCasts_S1x16x128_S16x128,
    shapeCast S16x128 (extractStridedSlice S1x16x128 ![2, 0, 0] W slices_S4x16x128_S1x16x128_2_0_0) shapeCasts_S1x16x128_S16x128,
    shapeCast S16x128 (extractStridedSlice S1x16x128 ![3, 0, 0] W slices_S4x16x128_S1x16x128_3_0_0) shapeCasts_S1x16x128_S16x128]

/-- Matrix `r` of them is the array's plane `r`. -/
theorem cut16_at (W : FVec Ideal S4x16x128 .f32) (r : Fin 4) (d : Fin 16) (o : Fin 128) : cut16 W r (ix2 d o) = W (ix3 r d o) := by
  have h : cut16 W r = fun y => W (ix3 r (y 0) (y 1)) := by
    funext y
    fin_cases r
    all_goals simp only [cut16, Fin.zero_eta, Fin.mk_one, Fin.reduceFinMk, Matrix.cons_val]
    all_goals pointwise []
  exact congrFun h _

/-- Four matrices of a later layer's weights side by side. -/
def side128 (a : Fin 4 → FVec Ideal S128x128 .f32) : FVec Ideal S128x512 .f32 :=
  concatenate S128x512 1 [⟨S128x128, a 0⟩, ⟨S128x128, a 1⟩, ⟨S128x128, a 2⟩, ⟨S128x128, a 3⟩]
    concatenates_S128x128_S128x128_S128x128_S128x128_S128x512_d1

/-- Matrix `r`'s column `o` is column `128 r + o` of the four side by side. -/
theorem side128_at (a : Fin 4 → FVec Ideal S128x128 .f32) (d : Fin 128) (r : Fin 4) (o : Fin 128) :
    side128 a (ix2 d (col r o)) = a r (ix2 d o) := by
  pointwise [side128]
  have ho := o.isLt
  fin_cases r
  all_goals
    simp only [Nat.reduceMul, Nat.zero_add]
    split_ifs
    all_goals try omega
    refine congrArg (a _) ?_
  all_goals idx_ext

/-- The four matrices, as the program cuts them out of one array. -/
def cut128 (W : FVec Ideal S4x128x128 .f32) : Fin 4 → FVec Ideal S128x128 .f32 :=
  ![shapeCast S128x128 (extractStridedSlice S1x128x128 ![0, 0, 0] W slices_S4x128x128_S1x128x128_0_0_0) shapeCasts_S1x128x128_S128x128,
    shapeCast S128x128 (extractStridedSlice S1x128x128 ![1, 0, 0] W slices_S4x128x128_S1x128x128_1_0_0) shapeCasts_S1x128x128_S128x128,
    shapeCast S128x128 (extractStridedSlice S1x128x128 ![2, 0, 0] W slices_S4x128x128_S1x128x128_2_0_0) shapeCasts_S1x128x128_S128x128,
    shapeCast S128x128 (extractStridedSlice S1x128x128 ![3, 0, 0] W slices_S4x128x128_S1x128x128_3_0_0) shapeCasts_S1x128x128_S128x128]

/-- Matrix `r` of them is the array's plane `r`. -/
theorem cut128_at (W : FVec Ideal S4x128x128 .f32) (r : Fin 4) (d : Fin 128) (o : Fin 128) : cut128 W r (ix2 d o) = W (ix3 r d o) := by
  have h : cut128 W r = fun y => W (ix3 r (y 0) (y 1)) := by
    funext y
    fin_cases r
    all_goals simp only [cut128, Fin.zero_eta, Fin.mk_one, Fin.reduceFinMk, Matrix.cons_val]
    all_goals pointwise []
  exact congrFun h _

variable (m : (ℓ : Loc nD τ sig) → Buf (Elt Ideal) ℓ) (c : Dev nD)

/-- The first layer's weights as the kernel finds them. -/
theorem w0_eq : V m c main_v8 = side16 (cut16 (m ((c : Thread nD τ).loc main_arg2))) := by
  unfold V
  simp only [V0, List.flatten_cons, List.flatten_nil, List.append_nil]
  after_results
  rfl

/-- The second layer's. -/
theorem w1_eq : V m c main_v17 = side128 (cut128 (m ((c : Thread nD τ).loc main_arg3))) := by
  unfold V
  simp only [V0, List.flatten_cons, List.flatten_nil, List.append_nil]
  after_results
  rfl

/-- The third layer's. -/
theorem w2_eq : V m c main_v26 = side128 (cut128 (m ((c : Thread nD τ).loc main_arg4))) := by
  unfold V
  simp only [V0, List.flatten_cons, List.flatten_nil, List.append_nil]
  after_results
  rfl

/-- The node bias, made a row. -/
theorem bn_at (q : Fin 32) : V m c main_v27 (ix2 0 q) = m ((c : Thread nD τ).loc main_arg7) (ix1 q) := by
  unfold V
  simp only [V0, List.flatten_cons, List.flatten_nil, List.append_nil]
  after_results
  pointwise []

/-- The edge bias, made a row. -/
theorem be_at (q : Fin 8) : V m c main_v28 (ix2 0 q) = m ((c : Thread nD τ).loc main_arg9) (ix1 q) := by
  unfold V
  simp only [V0, List.flatten_cons, List.flatten_nil, List.append_nil]
  after_results
  pointwise []

end Cert.KernelIdeal.Value

end
-- ==== Proof.Edges.lean ====
/- The edge numbers: which two nodes edge `e` joins, by the reference's tables and by the kernel's own integer arithmetic. -/
module

public import proofs.«01_k».proof.Proof.RefRead
public import proofs.«01_k».proof.Proof.Gen.KernelIdeal.Frame

@[expose] public section

set_option maxRecDepth 16384

noncomputable section

open Idealize.ShloMosaic Idealize.ShloMosaic.TcCoe Idealize.SL.Sem

namespace Cert.KernelIdeal.Value

open Cert.KernelIdeal Cert.KernelIdeal.Gen

/-- The edge numbers 0 … 767 down a column, as the kernel counts them. -/
def eNo : IVec S768x1 32 := iota .tc S768x1 32 [0] iota_S768x1_d0_w32
/-- The target node by the formula for the edges of nodes with 12 sources each. -/
def eDense : IVec S768x1 32 := k0_pay14 k0_pay10 12#32 k0_pay11 k0_pay12 k0_pay13
/-- The source's position among those 12. -/
def ePos : IVec S768x1 32 := k0_pay15 eNo
/-- The target node by the formula for the first 66 edges, whose nodes have as many sources as their number. -/
def eTri : IVec S768x1 32 := k0_pay18 eNo (k0_pay16 eNo) (k0_pay17 eNo)
/-- The kernel's target node of every edge. -/
def eDst : IVec S768x1 32 := k0_pay24 eNo eDense eTri
/-- The kernel's source node of every edge. -/
def eSrc : IVec S768x1 32 := k0_pay25 eNo eDense ePos (k0_pay19 eNo (k0_pay16 eNo) (k0_pay17 eNo)) 2#32
  (k0_pay20 eNo (k0_pay16 eNo) (k0_pay17 eNo)) (k0_pay21 eNo (k0_pay16 eNo) (k0_pay17 eNo)) (k0_pay22 eNo (k0_pay16 eNo) (k0_pay17 eNo))
/-- The kernel's band number of every edge: the source's distance from the target, counted up from 12 below it. -/
def eBand : IVec S768x1 32 := k0_pay26 eNo eDense ePos eTri (k0_pay19 eNo (k0_pay16 eNo) (k0_pay17 eNo)) 2#32
  (k0_pay20 eNo (k0_pay16 eNo) (k0_pay17 eNo)) (k0_pay21 eNo (k0_pay16 eNo) (k0_pay17 eNo)) (k0_pay22 eNo (k0_pay16 eNo) (k0_pay17 eNo))

/-- Edge `e`'s target node, off the reference's table. -/
def dst (e : Fin 690) : Fin 64 := ⟨(ReferenceIdeal.lit0 e).toNat % 64, Nat.mod_lt _ (by decide)⟩
/-- Edge `e`'s source node, off the reference's table. -/
def src (e : Fin 690) : Fin 64 := ⟨(ReferenceIdeal.lit1 e).toNat % 64, Nat.mod_lt _ (by decide)⟩
/-- Edge `e`'s band number. -/
def band (e : Fin 690) : Fin 12 := ⟨((src e).val + 12 - (dst e).val) % 12, Nat.mod_lt _ (by decide)⟩

/-- Row `e` of a column of 768. -/
abbrev row (e : Fin 690) : S768x1.Idx := ix2 ⟨e.val, by omega⟩ 0

/-- The kernel computes every edge's target node right. -/
theorem eDst_at : ∀ e : Fin 690, eDst (row e) = BitVec.ofNat 32 (dst e).val := by decide +kernel
/-- The kernel computes every edge's source node right. -/
theorem eSrc_at : ∀ e : Fin 690, eSrc (row e) = BitVec.ofNat 32 (src e).val := by decide +kernel
/-- The kernel computes every edge's band number right. -/
theorem eBand_at : ∀ e : Fin 690, eBand (row e) = BitVec.ofNat 32 (band e).val := by decide +kernel
/-- An edge's source lies `12 - band` nodes before its target. -/
theorem band_add : ∀ e : Fin 690, (dst e).val + (band e).val = (src e).val + 12 := by decide +kernel
/-- The reference's table of targets holds the target nodes. -/
theorem tDst_at : ∀ e : Fin 690, ReferenceIdeal.Value.tDst (ix1 e) = BitVec.ofNat 32 (dst e).val := by decide +kernel
/-- The reference's table of sources holds the source nodes. -/
theorem tSrc_at : ∀ e : Fin 690, ReferenceIdeal.Value.tSrc (ix1 e) = BitVec.ofNat 32 (src e).val := by decide +kernel

end Cert.KernelIdeal.Value

end
-- ==== Proof.Bands.lean ====
/- The kernel's band table: for every bond kind, twelve columns that hold the twelve diagonals of its bond matrix just
   below the main one, and four columns of zeros. -/
module

public import proofs.«01_k».proof.Proof.Spec
public import proofs.«01_k».proof.Proof.Gen.KernelIdeal.Frame

@[expose] public section

set_option maxRecDepth 16384

noncomputable section

open Idealize.ShloMosaic Idealize.ShloMosaic.TcCoe Idealize.SL.Sem

namespace Cert.KernelIdeal.Value

open Cert.KernelIdeal Cert.KernelIdeal.Gen

/-- One band column: at node `n` the entry of row `n` of `a` whose column is `n` plus the word `w`. -/
def diag (a : FVec Ideal S64x64 .f32) (w : BitVec 32) : FVec Ideal S64x1 .f32 :=
  shapeCast S64x1 (multiReduction .add [1] S64
    (select (cmpi .eq (iota .tc S64x64 32 [1] iota_S64x64_d1_w32) (addi (iota .tc S64x64 32 [0] iota_S64x64_d0_w32) (broadcast S64x64 w)))
      a (broadcast S64x64 (Scalar.ofBits .f32 0x00000000#32 : Ideal .f32)))
    0x00000000#32 reduces_S64x64_S64 (.inl rfl) rfl) shapeCasts_S64_S64x1

/-- The words of the distances -12, …, -1. -/
def steps : List (BitVec 32) := [4294967284#32, 4294967285#32, 4294967286#32, 4294967287#32, 4294967288#32, 4294967289#32,
  4294967290#32, 4294967291#32, 4294967292#32, 4294967293#32, 4294967294#32, 4294967295#32]

/-- The thirteen pieces of one bond kind: its twelve band columns and four columns of zeros. -/
def group (a : FVec Ideal S64x64 .f32) : List ((s : Shape) × (s.Idx → Ideal .f32)) :=
  steps.map (fun w => ⟨S64x1, diag a w⟩) ++ [⟨S64x4, broadcast S64x4 (Scalar.ofBits .f32 0x00000000#32 : Ideal .f32)⟩]

/-- Bond kind 0's matrix, as the kernel cuts it out of the four. -/
def plane0 (v : FVec Ideal S4x64x64 .f32) : FVec Ideal S64x64 .f32 := k0_pay29 v
/-- Bond kind 1's matrix. -/
def plane1 (v : FVec Ideal S4x64x64 .f32) : FVec Ideal S64x64 .f32 := k0_pay46 (k0_pay45 v)
/-- Bond kind 2's matrix. -/
def plane2 (v : FVec Ideal S4x64x64 .f32) : FVec Ideal S64x64 .f32 := k0_pay62 v
/-- Bond kind 3's matrix. -/
def plane3 (v : FVec Ideal S4x64x64 .f32) : FVec Ideal S64x64 .f32 := k0_pay78 v

/-- All the pieces of the band table, in order. -/
def pieces (v : FVec Ideal S4x64x64 .f32) : List ((s : Shape) × (s.Idx → Ideal .f32)) :=
  group (plane0 v) ++ (group (plane1 v) ++ (group (plane2 v) ++ group (plane3 v)))

/-- The pieces fit side by side into a table of 64 columns. -/
theorem pieces_cat (v : FVec Ideal S4x64x64 .f32) : Shape.Concatenates ((pieces v).map (·.1)) S64x64 1 := by
  simp only [pieces, group, steps, List.map, List.append, List.cons_append, List.nil_append]
  decide

/-- The band table. -/
def bands (v : FVec Ideal S4x64x64 .f32) : FVec Ideal S64x64 .f32 := concatenate S64x64 1 (pieces v) (pieces_cat v)

/-- The word of step `k` added to node `n` is node `x` exactly when `n` is `12 - k` past `x`. -/
theorem step_word : ∀ (k : Fin 12) (n x : Fin 64), IntOp.cmpi .eq (BitVec.ofNat 32 x.val)
    (IntOp.addi (BitVec.ofNat 32 n.val) (steps[k.val]'(by show k.val < 12; omega))) = if n.val + k.val = x.val + 12 then 1#1 else 0#1 := by
  decide +kernel

/-- Band column `k` of a matrix at node `n`, when node `j` is the one `12 - k` before it: the matrix's entry there. -/
theorem diag_at (a : FVec Ideal S64x64 .f32) (k : Fin 12) (n j : Fin 64) (h : n.val + k.val = j.val + 12) :
    diag a (steps[k.val]'(by show k.val < 12; omega)) (ix2 n 0) = a (ix2 n j) := by
  pointwise [diag]
  simp only [step_word]
  rw [Finset.sum_eq_single j (fun x _ hx => by
    rw [if_neg (fun e => hx (Fin.ext (by omega)))]; rfl) (fun hj => absurd (Finset.mem_univ j) hj), if_pos h]
  rfl

/-- The shapes of the pieces: twelve columns of width one and one of width four, four times. -/
def widths : List Shape :=
  let g : List Shape := List.replicate 12 S64x1 ++ [S64x4]
  g ++ (g ++ (g ++ g))

/-- The shapes of the pieces are those. -/
theorem pieces_widths (v : FVec Ideal S4x64x64 .f32) : (pieces v).map (·.1) = widths := by
  simp only [pieces, group, steps, List.map, List.append, List.cons_append, List.nil_append]
  decide

/-- The pieces before number `13 r + k` are `16 r + k` columns wide together. -/
theorem widths_before : ∀ (r : Fin 4) (k : Fin 12), ((widths.take (13 * r.val + k.val)).map fun s =>
    if h : s.rank = S64x64.rank then s.size ((1 : Fin S64x64.rank).cast h.symm) else 0).sum = 16 * r.val + k.val := by
  decide +kernel

/-- Column `16 r + k` of the band table is band column `k` of bond kind `r`. -/
theorem bands_at (v : FVec Ideal S4x64x64 .f32) (r : Fin 4) (k : Fin 12) (n : Fin 64) :
    bands v (ix2 n ⟨16 * r.val + k.val, by omega⟩)
      = diag (![plane0 v, plane1 v, plane2 v, plane3 v] r) (steps[k.val]'(by show k.val < 12; omega)) (ix2 n 0) := by
  unfold bands
  refine concatenate_apply_piece 1 (pieces v) (pieces_cat v) _ (13 * r.val + k.val) (by show _ < 52; omega) S64x1 _ ?_ rfl (16 * r.val + k.val) ?_ _ ?_ ?_
  · fin_cases r <;> fin_cases k <;> rfl
  · rw [List.map_take, pieces_widths]; exact widths_before r k
  · intro b hb
    match b, hb with
    | ⟨0, _⟩, _ => rfl
    | ⟨1, _⟩, hb => exact absurd rfl hb
  · rfl

/-- The four matrices are the four planes of the bond features. -/
theorem plane_at (v : FVec Ideal S4x64x64 .f32) (r : Fin 4) (i j : Fin 64) :
    ![plane0 v, plane1 v, plane2 v, plane3 v] r (ix2 i j) = v (ix3 r i j) := by
  fin_cases r
  · show plane0 v (ix2 i j) = _
    pointwise [plane0, k0_pay29]
  · show plane1 v (ix2 i j) = _
    pointwise [plane1, k0_pay45, k0_pay46]
  · show plane2 v (ix2 i j) = _
    pointwise [plane2, k0_pay62]
  · show plane3 v (ix2 i j) = _
    pointwise [plane3, k0_pay78]

end Cert.KernelIdeal.Value

end
-- ==== Proof.EdgeBlock.lean ====
/- One molecule's edge part as the kernel computes it: the band table picked at an edge's target row and band column, the
   read-outs of both end nodes added, and the edge result. -/
module

public import proofs.«01_k».proof.Proof.Edges
public import proofs.«01_k».proof.Proof.Bands
public import proofs.«01_k».proof.Proof.NodeBlock

@[expose] public section

set_option maxRecDepth 16384

noncomputable section

open Idealize.ShloMosaic Idealize.ShloMosaic.TcCoe Idealize.SL.Sem

namespace Cert.KernelIdeal.Value

open Cert.KernelIdeal Cert.KernelIdeal.Gen

/-- The indicator matrix of a column of node numbers: row `e` is one at the column that is `e`'s node and zero elsewhere. -/
def onehot (T : IVec S768x1 32) : FVec Ideal S768x64 .f32 :=
  sitofp .f32 (extui 32 (cmpi .eq (iota .tc S768x64 32 [1] iota_S768x64_d1_w32) (broadcastTo S768x64 T broadcasts_S768x1_S768x64)) natLt_1_32)

/-- The rows of the band table of the edges' target nodes. -/
def bandRows (D : FVec Ideal S64x64 .f32) : FVec Ideal S768x64 .f32 :=
  matmul dot_S768x64_S64x64_S768x64_1_0_0_1_n_n none (onehot eDst) D (constant S768x64 .f32 0x00000000#32)

/-- Of sixteen columns, the entry at every edge's band number. -/
def pick (g : FVec Ideal S768x16 .f32) : FVec Ideal S768x1 .f32 :=
  shapeCast S768x1 (multiReduction .add [1] S768
    (select (cmpi .eq (iota .tc S768x16 32 [1] iota_S768x16_d1_w32) (broadcastTo S768x16 eBand broadcasts_S768x1_S768x16)) g
      (broadcast S768x16 (Scalar.ofBits .f32 0x00000000#32 : Ideal .f32)))
    0x00000000#32 reduces_S768x16_S768 (.inl rfl) rfl) shapeCasts_S768_S768x1

/-- The edges' bond features: one pick per bond kind, side by side. -/
def bondK (g : FVec Ideal S768x64 .f32) : FVec Ideal S768x4 .f32 :=
  concatenate S768x4 1 [⟨S768x1, pick (extractStridedSlice S768x16 ![0, 0] g slices_S768x64_o0_0_S768x16)⟩,
    ⟨S768x1, pick (extractStridedSlice S768x16 ![0, 16] g slices_S768x64_o0_16_S768x16)⟩,
    ⟨S768x1, pick (extractStridedSlice S768x16 ![0, 32] g slices_S768x64_o0_32_S768x16)⟩,
    ⟨S768x1, pick (extractStridedSlice S768x16 ![0, 48] g slices_S768x64_o0_48_S768x16)⟩]
    concatenates_S768x1_S768x1_S768x1_S768x1_S768x4_d1

/-- The edges' read-outs: both end nodes' rows of the nodes' products `y`, added, plus the bias. -/
def linK (y : FVec Ideal S64x8 .f32) (b : FVec Ideal S1x8 .f32) : FVec Ideal S768x8 .f32 :=
  addf (matmul dot_S768x64_S64x8_S768x8_1_0_0_1_n_n none (addf (onehot eDst) (onehot eSrc)) y (constant S768x8 .f32 0x00000000#32))
    (broadcastTo S768x8 (shapeCast S1x8 b shapeCasts_S1x8_S1x8) broadcasts_S1x8_S768x8)

/-- The nodes' products with the edge weights. -/
def nodeDot (h : FVec Ideal S64x128 .f32) (w : FVec Ideal S128x8 .f32) : FVec Ideal S64x8 .f32 :=
  matmul dot_S64x128_S128x8_S64x8_1_0_0_1_n_n none h w (constant S64x8 .f32 0x00000000#32)

/-- The edge result from bond features and read-outs. -/
def updK (x : FVec Ideal S768x4 .f32) (s : FVec Ideal S768x8 .f32) : FVec Ideal S1x690x4 .f32 :=
  shapeCast S1x690x4 (extractStridedSlice S690x4 ![0, 0]
    (addf (mulf x (logistic (addf (extractStridedSlice S768x4 ![0, 0] s slices_S768x8_o0_0_S768x4)
        (broadcast S768x4 (Scalar.ofBits .f32 0x40000000#32 : Ideal .f32)))))
      (extractStridedSlice S768x4 ![0, 4] s slices_S768x8_o0_4_S768x4))
    slices_S768x4_o0_0_S690x4) shapeCasts_S690x4_S1x690x4

/-- What the kernel stores for the edges of one molecule. -/
def edgeK (v0 : Vec Ideal S1x64x16 .f32) (v : Vec Ideal S1x4x64x64 .f32) (w0 : Vec Ideal S16x512 .f32) (w1 w2 : Vec Ideal S128x512 .f32)
    (p : Vec Ideal S128x128 .f32) (w : Vec Ideal S128x8 .f32) (b : Vec Ideal S1x8 .f32) : FVec Ideal S1x690x4 .f32 :=
  updK (bondK (bandRows (bands (k0_pay3 v)))) (linK (nodeDot (embK v0 v w0 w1 w2 p) w) b)

set_option maxHeartbeats 4000000 in
/-- The kernel's second output block is that, stored whole. -/
theorem out0_11_eq (x0 : Vec Ideal S1x64x16 .f32) (x1 : Vec Ideal S1x4x64x64 .f32) (x2 : Vec Ideal S16x512 .f32) (x3 x4 : Vec Ideal S128x512 .f32)
    (x5 : Vec Ideal S128x128 .f32) (x6 : Vec Ideal S128x32 .f32) (x7 : Vec Ideal S1x32 .f32) (x8 : Vec Ideal S128x8 .f32) (x9 : Vec Ideal S1x8 .f32) :
    out0_11 x0 x1 x2 x3 x4 x5 x6 x7 x8 x9 = View.canon [⟨r0_9, edgeK (View.ld x0 r0_0) (View.ld x1 r0_1) (View.ld x2 r0_2) (View.ld x3 r0_3)
      (View.ld x4 r0_3) (View.ld x5 r0_4) (View.ld x8 r0_7) (View.ld x9 r0_8)⟩] := rfl

/-- The indicator's entry. -/
theorem onehot_at (T : IVec S768x1 32) (e : Fin 768) (m n : Fin 64) (h : T (ix2 e 0) = BitVec.ofNat 32 m.val) :
    onehot T (ix2 e n) = if n = m then (1 : EReal) else 0 := by
  pointwise [onehot]
  rw [h, WordCmp.cmpi_eq_eq]
  show (((_ : BitVec 32).toInt : ℝ) : EReal) = _
  have hm := m.isLt
  have hn := n.isLt
  have hw : (BitVec.ofNat 32 n.val = BitVec.ofNat 32 m.val) = (n = m) := by
    refine propext ⟨fun q => Fin.ext ?_, fun q => q ▸ rfl⟩
    have := congrArg BitVec.toNat q
    simp only [BitVec.toNat_ofNat] at this
    omega
  simp only [hw]
  by_cases q : n = m
  · simp [q]
  · simp [q]

/-- Both end nodes' rows, added. -/
theorem linK_at (y : FVec Ideal S64x8 .f32) (b : FVec Ideal S1x8 .f32) (e : Fin 690) (c : Fin 8) :
    linK y b (ix2 ⟨e.val, by omega⟩ c) = (y (ix2 (dst e) c) + y (ix2 (src e) c)) + b (ix2 0 c) := by
  pointwise [linK]
  refine congrArg (· + _) ?_
  simp only [onehot_at eDst _ _ _ (eDst_at e), onehot_at eSrc _ _ _ (eSrc_at e)]
  have h : ∀ n : Fin 64, ((if n = dst e then (1 : EReal) else 0) + (if n = src e then (1 : EReal) else 0)) * y (ix2 n c)
      = (if n = dst e then y (ix2 n c) else 0) + (if n = src e then y (ix2 n c) else 0) := fun n => by
    rw [EReal.right_distrib_of_nonneg (by split_ifs <;> simp) (by split_ifs <;> simp)]
    refine congrArg₂ (· + ·) ?_ ?_
    all_goals split_ifs
    all_goals first | exact one_mul _ | exact zero_mul _
  refine (Finset.sum_congr rfl fun n _ => h n).trans ?_
  rw [Finset.sum_add_distrib, Finset.sum_ite_eq', Finset.sum_ite_eq', if_pos (Finset.mem_univ _), if_pos (Finset.mem_univ _)]

/-- The nodes' products with the edge weights. -/
theorem nodeDot_at (h : FVec Ideal S64x128 .f32) (w : FVec Ideal S128x8 .f32) (n : Fin 64) (c : Fin 8) :
    nodeDot h w (ix2 n c) = ∑ o : Fin 128, h (ix2 n o) * w (ix2 o c) := by
  pointwise [nodeDot]

/-- An edge's row of the band table is its target node's row. -/
theorem bandRows_at (D : FVec Ideal S64x64 .f32) (e : Fin 690) (c : Fin 64) :
    bandRows D (ix2 ⟨e.val, by omega⟩ c) = D (ix2 (dst e) c) := by
  pointwise [bandRows]
  simp only [onehot_at eDst _ _ _ (eDst_at e)]
  rw [Finset.sum_eq_single (dst e) (fun n _ hn => by rw [if_neg hn]; exact zero_mul _) (fun hn => absurd (Finset.mem_univ _) hn), if_pos rfl]
  exact one_mul _

/-- The pick takes the edge's band column. -/
theorem pick_at (g : FVec Ideal S768x16 .f32) (e : Fin 690) :
    pick g (ix2 ⟨e.val, by omega⟩ 0) = g (ix2 ⟨e.val, by omega⟩ ⟨(band e).val, by omega⟩) := by
  pointwise [pick]
  simp only [eBand_at, WordCmp.cmpi_eq_eq]
  have hb := (band e).isLt
  rw [Finset.sum_eq_single (⟨(band e).val, by omega⟩ : Fin 16)]
  · simp only [decide_true]
    rfl
  · intro k _ hk
    have hne : ¬ BitVec.ofNat 32 k.val = BitVec.ofNat 32 (band e).val := fun q => hk (Fin.ext (by
      have := congrArg BitVec.toNat q
      have := k.isLt
      simp only [BitVec.toNat_ofNat] at *
      omega))
    simp only [hne, decide_false]
    rfl
  · exact fun hn => absurd (Finset.mem_univ _) hn

/-- Bond kind `r`'s pick is from its own sixteen columns. -/
theorem bondK_at (g : FVec Ideal S768x64 .f32) (e : Fin 690) (r : Fin 4) :
    bondK g (ix2 ⟨e.val, by omega⟩ r) = g (ix2 ⟨e.val, by omega⟩ ⟨16 * r.val + (band e).val, by omega⟩) := by
  pointwise [bondK]
  have hb := (band e).isLt
  fin_cases r
  all_goals
    split_ifs
    all_goals first | contradiction | skip
    refine (pick_at _ e).trans (congrArg g ?_)
  all_goals idx_ext

/-- The bond features the kernel finds in its band table are the bond matrix's entries at the edge's two nodes. -/
theorem bond_at (v : Vec Ideal S1x4x64x64 .f32) (e : Fin 690) (r : Fin 4) :
    bondK (bandRows (bands (k0_pay3 v))) (ix2 ⟨e.val, by omega⟩ r) = v (ix4 0 r (dst e) (src e)) := by
  rw [bondK_at, bandRows_at, bands_at, diag_at _ _ _ _ (band_add e), plane_at]
  pointwise [k0_pay3]

/-- THE KERNEL'S EDGE RESULT, in which the edge weights are applied to the two nodes apart and the products added. -/
theorem edgeK_at (v0 : Vec Ideal S1x64x16 .f32) (v : Vec Ideal S1x4x64x64 .f32) (w0 : Vec Ideal S16x512 .f32) (w1 w2 : Vec Ideal S128x512 .f32)
    (p : Vec Ideal S128x128 .f32) (w : Vec Ideal S128x8 .f32) (b : Vec Ideal S1x8 .f32) (e : Fin 690) (r : Fin 4) :
    edgeK v0 v w0 w1 w2 p w b (ix3 0 e r) = Spec.edgeApart (fun r i n => v (ix4 0 r i n)) (fun n o => embK v0 v w0 w1 w2 p (ix2 n o))
      (fun o q => w (ix2 o q)) (fun q => b (ix2 0 q)) (dst e) (src e) r := by
  unfold edgeK
  pointwise [updK]
  rw [bond_at, linK_at, linK_at, nodeDot_at, nodeDot_at, nodeDot_at, nodeDot_at]
  rfl

end Cert.KernelIdeal.Value

end
-- ==== Proof.Finals.lean ====
/- What the kernel's two result arrays hold when every molecule has been processed. -/
module

public import proofs.«01_k».proof.Proof.Entry
public import proofs.«01_k».proof.Proof.EdgeBlock

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (c : Dev nD)

/-- The embeddings of molecule `b`. -/
def embV (b : Fin 1024) : Fin 64 → Fin 128 → Ideal .f32 :=
  Spec.embed (fun r i n => m ((c : Thread nD τ).loc main_arg1) (ix4 b r i n)) (fun n d => m ((c : Thread nD τ).loc main_arg0) (ix3 b n d))
    (fun r d o => m ((c : Thread nD τ).loc main_arg2) (ix3 r d o)) (fun r d o => m ((c : Thread nD τ).loc main_arg3) (ix3 r d o))
    (fun r d o => m ((c : Thread nD τ).loc main_arg4) (ix3 r d o)) (fun j o => m ((c : Thread nD τ).loc main_arg5) (ix2 j o))

/-- The node result of all molecules. -/
def nodeV : FVec Ideal S1024x64x16 .f32 := fun j =>
  Spec.node (fun n d => m ((c : Thread nD τ).loc main_arg0) (ix3 (j 0) n d)) (embV m c (j 0))
    (fun o q => m ((c : Thread nD τ).loc main_arg6) (ix2 o q)) (fun q => m ((c : Thread nD τ).loc main_arg7) (ix1 q)) (j 1) (j 2)

/-- The edge result of all molecules, the weights applied to the two nodes of an edge apart. -/
def edgeV : FVec Ideal S1024x690x4 .f32 := fun j =>
  Spec.edgeApart (fun r i n => m ((c : Thread nD τ).loc main_arg1) (ix4 (j 0) r i n)) (embV m c (j 0))
    (fun o q => m ((c : Thread nD τ).loc main_arg8) (ix2 o q)) (fun q => m ((c : Thread nD τ).loc main_arg9) (ix1 q)) (dst (j 1)) (src (j 1)) (j 2)

/-- Molecule `t` is block `t` of the two batched inputs and of the two results; every other input is one block. -/
theorem idx : ∀ t : Fin cfg0.N, win0_0.index t = ![t.val, 0, 0] ∧ win0_1.index t = ![t.val, 0, 0, 0] ∧ win0_2.index t = ![0, 0] ∧
    win0_3.index t = ![0, 0] ∧ win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![t.val, 0, 0] ∧ win0_11.index t = ![t.val, 0, 0] :=
  (by decide +kernel : ∀ t : Fin grid0.N, _)

/-- Block `t` of the node features is molecule `t`'s. -/
theorem at0 (t : Fin cfg0.N) (n : Fin 64) (d : Fin 16) :
    iblk m c 0 t (ix3 0 n d) = m ((c : Thread nD τ).loc main_arg0) (ix3 (⟨t.val, t.isLt⟩ : Fin 1024) n d) := by
  blk_ext [iblk, V, idx t]
/-- Block `t` of the bond features is molecule `t`'s. -/
theorem at1 (t : Fin cfg0.N) (r : Fin 4) (i n : Fin 64) :
    iblk m c 1 t (ix4 0 r i n) = m ((c : Thread nD τ).loc main_arg1) (ix4 (⟨t.val, t.isLt⟩ : Fin 1024) r i n) := by
  blk_ext [iblk, V, idx t]
/-- The first layer's weights at column `128 r + o` are those of bond kind `r`. -/
theorem at2 (t : Fin cfg0.N) (d : Fin 16) (r : Fin 4) (o : Fin 128) :
    iblk m c 2 t (ix2 d (col r o)) = m ((c : Thread nD τ).loc main_arg2) (ix3 r d o) := by
  refine Eq.trans ?_ ((congrFun (w0_eq m c) _).trans ((side16_at _ d r o).trans (cut16_at _ r d o)))
  blk_ext [iblk, idx t]
/-- The same of the second layer. -/
theorem at3 (t : Fin cfg0.N) (d : Fin 128) (r : Fin 4) (o : Fin 128) :
    iblk m c 3 t (ix2 d (col r o)) = m ((c : Thread nD τ).loc main_arg3) (ix3 r d o) := by
  refine Eq.trans ?_ ((congrFun (w1_eq m c) _).trans ((side128_at _ d r o).trans (cut128_at _ r d o)))
  blk_ext [iblk, idx t]
/-- The same of the third layer. -/
theorem at4 (t : Fin cfg0.N) (d : Fin 128) (r : Fin 4) (o : Fin 128) :
    iblk m c 4 t (ix2 d (col r o)) = m ((c : Thread nD τ).loc main_arg4) (ix3 r d o) := by
  refine Eq.trans ?_ ((congrFun (w2_eq m c) _).trans ((side128_at _ d r o).trans (cut128_at _ r d o)))
  blk_ext [iblk, idx t]
/-- The projection's weights are the argument. -/
theorem at5 (t : Fin cfg0.N) (j o : Fin 128) :
    iblk m c 5 t (ix2 j o) = m ((c : Thread nD τ).loc main_arg5) (ix2 j o) := by
  blk_ext [iblk, V, idx t]
/-- The node head's weights are the argument. -/
theorem at6 (t : Fin cfg0.N) (o : Fin 128) (q : Fin 32) :
    iblk m c 6 t (ix2 o q) = m ((c : Thread nD τ).loc main_arg6) (ix2 o q) := by
  blk_ext [iblk, V, idx t]
/-- The node head's bias, read off its row. -/
theorem at7 (t : Fin cfg0.N) (q : Fin 32) :
    iblk m c 7 t (ix2 0 q) = m ((c : Thread nD τ).loc main_arg7) (ix1 q) := by
  refine Eq.trans ?_ (bn_at m c q)
  blk_ext [iblk, idx t]
/-- The edge head's weights are the argument. -/
theorem at8 (t : Fin cfg0.N) (o : Fin 128) (q : Fin 8) :
    iblk m c 8 t (ix2 o q) = m ((c : Thread nD τ).loc main_arg8) (ix2 o q) := by
  blk_ext [iblk, V, idx t]
/-- The edge head's bias, read off its row. -/
theorem at9 (t : Fin cfg0.N) (q : Fin 8) :
    iblk m c 9 t (ix2 0 q) = m ((c : Thread nD τ).loc main_arg9) (ix1 q) := by
  refine Eq.trans ?_ (be_at m c q)
  blk_ext [iblk, idx t]

/-- The kernel's embeddings at molecule `t`. -/
theorem emb_block (t : Fin cfg0.N) (i : Fin 64) (o : Fin 128) :
    embK (iblk m c 0 t) (iblk m c 1 t) (iblk m c 2 t) (iblk m c 3 t) (iblk m c 4 t) (iblk m c 5 t) (ix2 i o) = embV m c ⟨t.val, t.isLt⟩ i o := by
  rw [embK_at]
  simp only [at0, at1, at2, at3, at4, at5]
  rfl

/-- The kernel's node block at molecule `t`. -/
theorem node_block (t : Fin cfg0.N) (i : Fin 64) (f : Fin 16) :
    nodeK (iblk m c 0 t) (iblk m c 1 t) (iblk m c 2 t) (iblk m c 3 t) (iblk m c 4 t) (iblk m c 5 t) (iblk m c 6 t) (iblk m c 7 t) (ix3 0 i f)
      = nodeV m c (ix3 (⟨t.val, t.isLt⟩ : Fin 1024) i f) := by
  rw [node_at]
  simp only [emb_block, at0, at6, at7]
  rfl

/-- The kernel's edge block at molecule `t`. -/
theorem edge_block (t : Fin cfg0.N) (e : Fin 690) (r : Fin 4) :
    edgeK (iblk m c 0 t) (iblk m c 1 t) (iblk m c 2 t) (iblk m c 3 t) (iblk m c 4 t) (iblk m c 5 t) (iblk m c 8 t) (iblk m c 9 t) (ix3 0 e r)
      = edgeV m c (ix3 (⟨t.val, t.isLt⟩ : Fin 1024) e r) := by
  rw [edgeK_at]
  simp only [emb_block, at1, at8, at9]
  rfl

/-- THE NODE ARRAY at the end. -/
theorem final_nodes : (dats m 0 c).arrAt 10 (cfgs 0).N = nodeV m c := by
  refine (dats m 0 c).arrAt_eq_of_covers 10 _ (by decide +kernel) fun t _ y => ?_
  blk_simp
  rw [after0_10, out0_10_eq]; frame_out
  have hy : (y : S1x64x16.Idx) = ix3 0 (y 1) (y 2) := by idx_ext
  refine (congrArg _ hy).trans ((node_block m c t (y 1) (y 2)).trans (congrArg (nodeV m c) ?_))
  blk_ext [idx t]

/-- THE EDGE ARRAY at the end. -/
theorem final_edges : (dats m 0 c).arrAt 11 (cfgs 0).N = edgeV m c := by
  refine (dats m 0 c).arrAt_eq_of_covers 11 _ (by decide +kernel) fun t _ y => ?_
  blk_simp
  rw [after0_11, out0_11_eq]; frame_out
  have hy : (y : S1x690x4.Idx) = ix3 0 (y 1) (y 2) := by idx_ext
  refine (congrArg _ hy).trans ((edge_block m c t (y 1) (y 2)).trans (congrArg (edgeV m c) ?_))
  blk_ext [idx t]

end Cert.KernelIdeal.Value

end
-- ==== Proof.Tail.lean ====
/- The kernel program's result: its two arrays flattened and laid end to end. -/
module

public import proofs.«01_k».proof.Proof.Finals

@[expose] public section

set_option maxRecDepth 16384

noncomputable section

open Idealize.ShloMosaic Idealize.ShloMosaic.TcCoe Idealize.SL.Sem

namespace Cert.KernelIdeal.Value

open Cert.KernelIdeal Cert.KernelIdeal.Gen

/-- Two arrays, each flattened per molecule, side by side. -/
def join (a : FVec Ideal S1024x64x16 .f32) (b : FVec Ideal S1024x690x4 .f32) : FVec Ideal S1024x3784 .f32 :=
  concatenate S1024x3784 1 [⟨S1024x1024, shapeCast S1024x1024 a shapeCasts_S1024x64x16_S1024x1024⟩,
    ⟨S1024x2760, shapeCast S1024x2760 b shapeCasts_S1024x690x4_S1024x2760⟩] concatenates_S1024x1024_S1024x2760_S1024x3784_d1

variable (m : (ℓ : Loc nD τ sig) → Buf (Elt Ideal) ℓ) (c : Dev nD)

/-- What the operations after the kernel leave in the result, from any contents of the buffers. -/
theorem tail_of (Vv : Valuation τ sig (Elt Ideal)) :
    StableHlo.after hostOps1 Vv (Proc.devRef .tc main_v32) = join (Vv (Proc.devRef .tc main_v29_0)) (Vv (Proc.devRef .tc main_v29_1)) := by
  after_results
  rfl

/-- THE KERNEL PROGRAM'S RESULT. -/
theorem tail_eq : Pipeline.afterTail₀ cfgs (dats m) 0 (V0 m) [hostOps1] c main_v32 = join (nodeV m c) (edgeV m c) := by
  unfold Pipeline.afterTail₀
  simp only [List.flatten_cons, List.flatten_nil, List.append_nil]
  refine (tail_of _).trans (congrArg₂ join ?_ ?_)
  · exact (Pipeline.withArrays_arr spec0 (by decide) c (V0 m c) _ 10).trans (final_nodes m c)
  · exact (Pipeline.withArrays_arr spec0 (by decide) c (V0 m c) _ 11).trans (final_edges m c)

end Cert.KernelIdeal.Value

end
-- ==== Proof.Equation.lean ====
/- The equation of the two programs' results: the precondition read off, and the arrays of nodes and of edges compared. -/
module

public import proofs.«01_k».proof.Defs
public import proofs.«01_k».proof.Proof.RefRead
public import proofs.«01_k».proof.Proof.Tail
public import Idealize.ShloMosaic.Lib.ReduceAll

@[expose] public section

set_option maxRecDepth 16384

noncomputable section

open Idealize.ShloMosaic Idealize.ShloMosaic.TcCoe Idealize.SL.Sem

namespace Cert.Equation

/-- The precondition's operations are well formed. -/
theorem preFacts : Cert.Pre_edge_weights_finite.Facts := ⟨by decide, by decide, by decide⟩

/-- An extended real whose absolute value is below infinity is a real number. -/
theorem real_of_abs_lt (x : Ideal .f32) (h : FloatOps.cmpf (F := Ideal) .olt (FloatOps.absf x) (Ideal.ofBits .f32 0x7F800000#32) = 1#1) :
    ∃ u : ℝ, x = (u : EReal) := by
  have hne : ¬ (⊤ : EReal) < Ideal.ofBits .f32 0x7F800000#32 := not_top_lt
  have hlt : (max x (-x) : EReal) < Ideal.ofBits .f32 0x7F800000#32 := by
    by_contra hn
    have h0 : BitVec.ofBool (decide ((max x (-x) : EReal) < Ideal.ofBits .f32 0x7F800000#32)) = 1#1 := h
    rw [decide_eq_false hn] at h0
    exact absurd h0 (by decide)
  induction x using EReal.rec with
  | bot => exact absurd (by simpa using hlt) hne
  | coe u => exact ⟨u, rfl⟩
  | top => exact absurd (by simpa using hlt) hne

/-- THE PRECONDITION, read: no edge weight is infinite. -/
theorem weights_real [Cert.Pre_edge_weights_finite.Facts]
    (m : (ℓ : Loc KernelIdeal.nD KernelIdeal.τ KernelIdeal.sig) → Buf (Elt Ideal) ℓ) (h : Cert.Pre_KernelIdeal_edge_weights_finite m)
    (c : Dev KernelIdeal.nD) (o : Fin 128) (q : Fin 8) :
    ∃ u : ℝ, m ((c : Thread KernelIdeal.nD KernelIdeal.τ).loc KernelIdeal.main_arg8) (ix2 o q) = (u : EReal) := by
  refine real_of_abs_lt _ ?_
  have e := Host.reduce_andi_all _ _ _ _ _ (congrFun (h c) finZeroElim) (ix2 o q)
  refine Eq.trans ?_ e
  pointwise []

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two programs' arguments agree. -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)

/-- The reference's embeddings are the kernel's. -/
theorem emb_eq (h : Agree m m' c) (b : Fin 1024) (i : Fin 64) (o : Fin 128) :
    ReferenceIdeal.Value.embM m' c (ix3 b i o) = KernelIdeal.Value.embV m c b i o := by
  obtain ⟨h0, h1, h2, h3, h4, h5, -⟩ := h
  unfold ReferenceIdeal.Value.embM
  rw [ReferenceIdeal.Value.emb_at, h0, h1, h2, h3, h4, h5]
  rfl

/-- The node results agree. -/
theorem nodes_eq (h : Agree m m' c) :
    ReferenceIdeal.Value.nodeRes (m' ((c.tc : Thread ReferenceIdeal.nD ReferenceIdeal.τ).loc ReferenceIdeal.main_arg0))
      (ReferenceIdeal.Value.nodeLin (ReferenceIdeal.Value.embM m' c)
        (m' ((c.tc : Thread ReferenceIdeal.nD ReferenceIdeal.τ).loc ReferenceIdeal.main_arg6))
        (m' ((c.tc : Thread ReferenceIdeal.nD ReferenceIdeal.τ).loc ReferenceIdeal.main_arg7)))
      = KernelIdeal.Value.nodeV m c := by
  funext j
  obtain ⟨b, i, f, rfl⟩ : ∃ (b : Fin 1024) (i : Fin 64) (f : Fin 16), j = ix3 b i f := ⟨j 0, j 1, j 2, by idx_ext⟩
  refine (ReferenceIdeal.Value.nodeRes_at _ _ _ _ b i f).trans ?_
  simp only [emb_eq m m' c h]
  obtain ⟨h0, -, -, -, -, -, h6, h7, -⟩ := h
  rw [h0, h6, h7]
  rfl

/-- The edge results agree: the embeddings are never infinite, and the precondition says the weights are not. -/
theorem edges_eq (h : Agree m m' c)
    (hw : ∀ (o : Fin 128) (q : Fin 8), ∃ u : ℝ, m ((c : Thread KernelIdeal.nD KernelIdeal.τ).loc KernelIdeal.main_arg8) (ix2 o q) = (u : EReal)) :
    ReferenceIdeal.Value.edgeRes (ReferenceIdeal.Value.bondAt (m' ((c.tc : Thread ReferenceIdeal.nD ReferenceIdeal.τ).loc ReferenceIdeal.main_arg1)))
      (ReferenceIdeal.Value.edgeLin (ReferenceIdeal.Value.embM m' c)
        (m' ((c.tc : Thread ReferenceIdeal.nD ReferenceIdeal.τ).loc ReferenceIdeal.main_arg8))
        (m' ((c.tc : Thread ReferenceIdeal.nD ReferenceIdeal.τ).loc ReferenceIdeal.main_arg9)))
      = KernelIdeal.Value.edgeV m c := by
  funext j
  obtain ⟨b, e, r, rfl⟩ : ∃ (b : Fin 1024) (e : Fin 690) (r : Fin 4), j = ix3 b e r := ⟨j 0, j 1, j 2, by idx_ext⟩
  refine (ReferenceIdeal.Value.edgeRes_at _ _ _ _ b e r (KernelIdeal.Value.dst e) (KernelIdeal.Value.src e)
    (KernelIdeal.Value.tDst_at e) (KernelIdeal.Value.tSrc_at e)).trans ?_
  simp only [emb_eq m m' c h]
  obtain ⟨-, h1, -, -, -, -, -, -, h8, h9⟩ := h
  rw [h1, h8, h9]
  exact (Spec.edgeApart_eq _ _ _ _ (fun n o => Spec.embed_real _ _ _ _ _ _ n o) hw _ _ r).symm

/-- THE RESULTS AGREE: the kernel's two arrays, flattened and laid end to end, are the reference's result. -/
theorem result_eq (h : Agree m m' c)
    (hw : ∀ (o : Fin 128) (q : Fin 8), ∃ u : ℝ, m ((c : Thread KernelIdeal.nD KernelIdeal.τ).loc KernelIdeal.main_arg8) (ix2 o q) = (u : EReal)) :
    ReferenceIdeal.Value.res_out0 m' c = KernelIdeal.Value.join (KernelIdeal.Value.nodeV m c) (KernelIdeal.Value.edgeV m c) := by
  rw [ReferenceIdeal.Value.res_eq, nodes_eq m m' c h, edges_eq m m' c h hw]
  rfl

end Cert.Equation

end
-- ==== Proof.lean ====
/- The certificate: the kernel and the reference run, leave their arguments unchanged and the machine quiet, and end with equal
   results at the ideal instance when no edge weight is infinite. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, its arguments unchanged; it has no semaphore, so every counter is at zero. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

set_option maxHeartbeats 1600000 in
/-- THE VALUE CLAIM: from equal arguments, no edge weight infinite, the two programs end with equal results. -/
theorem value [Cert.Pre_edge_weights_finite.Facts] : Cert.algebraic_KernelIdeal_ReferenceIdeal_pre_edge_weights_finite := by
  pair_intro
  · run_from Cert.KernelIdeal.Gen.run_main m g & Cert.KernelIdeal.Gen.unchanged m g
  · run_from Cert.ReferenceIdeal.Value.run m' g'
    exact (Cert.Equation.result_eq m m' c (hagree c) (Cert.Equation.weights_real m hpre c)).trans (Cert.KernelIdeal.Value.tail_eq m c).symm

/-- ALL FIVE CLAIMS: the frames of the kernel, the ideal kernel and the reference; the ideal kernel is the kernel over the
    extended reals; kernel and reference have equal results. -/
theorem claim : Cert.Claim := by
  haveI := Cert.Equation.preFacts
  exact ⟨Cert.Kernel.Gen.facts, Cert.KernelIdeal.Gen.facts, Cert.ReferenceIdeal.Gen.facts, Cert.Equation.preFacts,
    fun m g _ => Cert.Kernel.Gen.frame m g, fun m g _ => Cert.KernelIdeal.Gen.frame m g, fun m g _ => Cert.KernelIdeal.Gen.frame m g,
    reference_frame, fun m g _ => reference_frame m g trivial, trivial, value⟩

end Cert.Proof

end
